-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_vectors_nonzero [hPre_vectors_nonzero : Cert.Pre_vectors_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_vectors_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_vectors_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_vectors_nonzero [hPre_vectors_nonzero : Cert.Pre_vectors_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_vectors_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_vectors_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_vectors_nonzero [hKernelIdeal : Cert.KernelIdeal.Facts] [hPre_vectors_nonzero : Cert.Pre_vectors_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_vectors_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_vectors_nonzero [hReferenceIdeal : Cert.ReferenceIdeal.Facts] [hPre_vectors_nonzero : Cert.Pre_vectors_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_vectors_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_vectors_nonzero [hKernelIdeal : Cert.KernelIdeal.Facts] [hReferenceIdeal : Cert.ReferenceIdeal.Facts] [hPre_vectors_nonzero : Cert.Pre_vectors_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_vectors_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_vectors_nonzero : Cert.Pre_vectors_nonzero.Facts),
    quiescent_Kernel (hKernel := hKernel)
    ∧ quiescent_KernelIdeal (hKernelIdeal := hKernelIdeal)
    ∧ quiescent_KernelIdeal_pre_vectors_nonzero (hKernelIdeal := hKernelIdeal) (hPre_vectors_nonzero := hPre_vectors_nonzero)
    ∧ quiescent_ReferenceIdeal (hReferenceIdeal := hReferenceIdeal)
    ∧ quiescent_ReferenceIdeal_pre_vectors_nonzero (hReferenceIdeal := hReferenceIdeal) (hPre_vectors_nonzero := hPre_vectors_nonzero)
    ∧ preserves_Kernel_KernelIdeal
    ∧ algebraic_KernelIdeal_ReferenceIdeal_pre_vectors_nonzero (hKernelIdeal := hKernelIdeal) (hReferenceIdeal := hReferenceIdeal) (hPre_vectors_nonzero := hPre_vectors_nonzero)
-- ==== Pre_vectors_nonzero.lean ====
abbrev S1408 : Shape := ⟨1, ![1408]⟩
abbrev S50000x1408 : Shape := ⟨2, ![50000, 1408]⟩
abbrev S_ : Shape := ⟨0, ![]⟩
abbrev S50000 : Shape := ⟨1, ![50000]⟩

class Facts : Prop where
  reducesTo_S1408_S_d0 : S1408.ReducesTo [0] S_
  h_S_ : 0 < S_.numel
  bcast_S_S1408 : S_.BroadcastsInDim S1408 (![] : Fin 0 → Fin S1408.rank)
  reducesTo_S50000x1408_S50000_d1 : S50000x1408.ReducesTo [1] S50000
  bcast_S_S50000 : S_.BroadcastsInDim S50000 (![] : Fin 0 → Fin S50000.rank)

variable [Facts]

def fn_norm {F : FTy → Type} [FloatOps F] (arg0 : FVec F S1408 .f32) : FVec F S_ .f32 :=
  let v0 : FVec F S1408 .f32 := mulf arg0 arg0
  let cst : FVec F S_ .f32 := constant S_ .f32 0x00000000#32
  let v1 : FVec F S_ .f32 := (fun x v => Host.reduceAdd x v reducesTo_S1408_S_d0 h_S_) v0 cst
  let v2 : FVec F S_ .f32 := Host.sqrt v1
  v2

def fn_clip {F : FTy → Type} [FloatOps F] (arg0 : FVec F S_ .f32) (arg1 : FVec F S_ .f32) (arg2 : FVec F S_ .f32) : FVec F S_ .f32 :=
  let v0 : FVec F S_ .f32 := id arg1
  let v1 : FVec F S_ .f32 := maximumf v0 arg0
  let v2 : FVec F S_ .f32 := id arg2
  let v3 : FVec F S_ .f32 := minimumf v2 v1
  v3

def fn_where {F : FTy → Type} [FloatOps F] (arg0 : IVec S_ 1) (arg1 : FVec F S_ .f32) (arg2 : FVec F S_ .f32) : FVec F S_ .f32 :=
  let v0 : FVec F S_ .f32 := select arg0 arg1 arg2
  v0

def fn_where_0 {F : FTy → Type} [FloatOps F] (arg0 : IVec S_ 1) (arg1 : FVec F S_ .f32) (arg2 : FVec F S_ .f32) : FVec F S_ .f32 :=
  let v0 : FVec F S_ .f32 := id arg1
  let v1 : FVec F S_ .f32 := select arg0 v0 arg2
  v1

def fn_where_1 {F : FTy → Type} [FloatOps F] (arg0 : IVec S_ 1) (arg1 : FVec F S1408 .f32) (arg2 : FVec F S1408 .f32) : FVec F S1408 .f32 :=
  let v0 : FVec F S1408 .f32 := (fun p a b => select (broadcastInDim S1408 ![] bcast_S_S1408 p) a b) arg0 arg1 arg2
  v0

def fn_norm_2 {F : FTy → Type} [FloatOps F] (arg0 : FVec F S1408 .f32) : FVec F S_ .f32 :=
  let v0 : FVec F S1408 .f32 := mulf arg0 arg0
  let cst : FVec F S_ .f32 := constant S_ .f32 0x00000000#32
  let v1 : FVec F S_ .f32 := (fun x v => Host.reduceAdd x v reducesTo_S1408_S_d0 h_S_) v0 cst
  let v2 : FVec F S_ .f32 := Host.sqrt v1
  v2

def fn_norm_3 {F : FTy → Type} [FloatOps F] (arg0 : FVec F S50000x1408 .f32) : FVec F S50000 .f32 :=
  let v0 : FVec F S50000x1408 .f32 := mulf arg0 arg0
  let cst : FVec F S_ .f32 := constant S_ .f32 0x00000000#32
  let v1 : FVec F S50000 .f32 := (fun x v => Host.reduceAdd x v reducesTo_S50000x1408_S50000_d1 h_S_) v0 cst
  let v2 : FVec F S50000 .f32 := Host.sqrt v1
  v2

def fn_part3 {F : FTy → Type} [FloatOps F] (main_arg0 : FVec F S1408 .f32) (main_arg1 : FVec F S1408 .f32) (main_arg2 : FVec F S50000x1408 .f32) (main_v45 : FVec F S_ .f32) (main_v50 : FVec F S_ .f32) (main_v52 : FVec F S_ .f32) (main_cst_17 : FVec F S_ .f32) : IVec S_ 1 × IVec S50000 1 :=
  let main_v53 : IVec S_ 1 := cmpf .oeq main_v45 main_cst_17
  let main_cst_18 : FVec F S_ .f32 := constant S_ .f32 0x3F800000#32
  let main_v54 : FVec F S_ .f32 := fn_where_0 (F := F) main_v53 main_cst_18 main_v45
  let main_v55 : FVec F S_ .f32 := Host.divf main_v52 main_v54
  let main_v56 : FVec F S1408 .f32 := broadcastInDim S1408 ![] bcast_S_S1408 main_v50
  let main_v57 : FVec F S1408 .f32 := mulf main_v56 main_arg0
  let main_v58 : FVec F S1408 .f32 := broadcastInDim S1408 ![] bcast_S_S1408 main_v55
  let main_v59 : FVec F S1408 .f32 := mulf main_v58 main_arg1
  let main_v60 : FVec F S1408 .f32 := addf main_v57 main_v59
  let main_cst_19 : FVec F S_ .f32 := constant S_ .f32 0x00000000#32
  let main_v61 : IVec S_ 1 := cmpf .oeq main_v45 main_cst_19
  let main_v62 : FVec F S1408 .f32 := fn_where_1 (F := F) main_v61 main_arg0 main_v60
  let main_v63 : FVec F S_ .f32 := fn_norm_2 (F := F) main_v62
  let main_cst_20 : FVec F S_ .f32 := constant S_ .f32 0x00000000#32
  let main_v64 : IVec S_ 1 := cmpf .ogt main_v63 main_cst_20
  let main_v65 : FVec F S50000 .f32 := fn_norm_3 (F := F) main_arg2
  let main_cst_21 : FVec F S_ .f32 := constant S_ .f32 0x00000000#32
  let main_v66 : FVec F S50000 .f32 := broadcastInDim S50000 ![] bcast_S_S50000 main_cst_21
  let main_v67 : IVec S50000 1 := cmpf .ogt main_v65 main_v66
  (main_v64, main_v67)

def fn_part2 {F : FTy → Type} [FloatOps F] (main_arg0 : FVec F S1408 .f32) (main_arg1 : FVec F S1408 .f32) (main_arg2 : FVec F S50000x1408 .f32) (main_v8 : FVec F S_ .f32) (main_v9 : FVec F S_ .f32) (main_v32 : FVec F S_ .f32) (main_v36 : FVec F S_ .f32) (main_cst_9 : FVec F S_ .f32) : IVec S_ 1 × IVec S50000 1 :=
  let main_v37 : FVec F S_ .f32 := mulf main_cst_9 main_v36
  let main_v38 : FVec F S_ .f32 := addf main_v32 main_v37
  let main_cst_10 : FVec F S_ .f32 := constant S_ .f32 0x3F800000#32
  let main_v39 : FVec F S_ .f32 := subf main_cst_10 main_v9
  let main_v40 : FVec F S_ .f32 := Host.sqrt main_v39
  let main_v41 : FVec F S_ .f32 := mulf main_v40 main_v38
  let main_cst_11 : FVec F S_ .f32 := constant S_ .f32 0x00000000#32
  let main_v42 : IVec S_ 1 := cmpf .olt main_v8 main_cst_11
  let main_cst_12 : FVec F S_ .f32 := constant S_ .f32 0x40490FDB#32
  let main_v43 : FVec F S_ .f32 := subf main_cst_12 main_v41
  let main_v44 : FVec F S_ .f32 := fn_where (F := F) main_v42 main_v43 main_v41
  let main_v45 : FVec F S_ .f32 := Host.sin main_v44
  let main_cst_13 : FVec F S_ .f32 := constant S_ .f32 0x3E4CCCCD#32
  let main_v46 : FVec F S_ .f32 := mulf main_cst_13 main_v44
  let main_v47 : FVec F S_ .f32 := Host.sin main_v46
  let main_cst_14 : FVec F S_ .f32 := constant S_ .f32 0x00000000#32
  let main_v48 : IVec S_ 1 := cmpf .oeq main_v45 main_cst_14
  let main_cst_15 : FVec F S_ .f32 := constant S_ .f32 0x3F800000#32
  let main_v49 : FVec F S_ .f32 := fn_where_0 (F := F) main_v48 main_cst_15 main_v45
  let main_v50 : FVec F S_ .f32 := Host.divf main_v47 main_v49
  let main_cst_16 : FVec F S_ .f32 := constant S_ .f32 0x3F4CCCCD#32
  let main_v51 : FVec F S_ .f32 := mulf main_cst_16 main_v44
  let main_v52 : FVec F S_ .f32 := Host.sin main_v51
  let main_cst_17 : FVec F S_ .f32 := constant S_ .f32 0x00000000#32
  fn_part3 (F := F) main_arg0 main_arg1 main_arg2 main_v45 main_v50 main_v52 main_cst_17

def fn_part1 {F : FTy → Type} [FloatOps F] (main_arg0 : FVec F S1408 .f32) (main_arg1 : FVec F S1408 .f32) (main_arg2 : FVec F S50000x1408 .f32) (main_v8 : FVec F S_ .f32) (main_v9 : FVec F S_ .f32) (main_v14 : FVec F S_ .f32) (main_v16 : FVec F S_ .f32) (main_cst_5 : FVec F S_ .f32) : IVec S_ 1 × IVec S50000 1 :=
  let main_v17 : FVec F S_ .f32 := mulf main_cst_5 main_v16
  let main_v18 : FVec F S_ .f32 := addf main_v14 main_v17
  let main_v19 : FVec F S_ .f32 := mulf main_v9 main_v9
  let main_v20 : FVec F S_ .f32 := mulf main_v19 main_v19
  let main_cst_6 : FVec F S_ .f32 := constant S_ .f32 0x3CFD10F8#32
  let main_v21 : FVec F S_ .f32 := mulf main_cst_6 main_v20
  let main_v22 : FVec F S_ .f32 := addf main_v18 main_v21
  let main_v23 : FVec F S_ .f32 := mulf main_v9 main_v9
  let main_v24 : FVec F S_ .f32 := mulf main_v23 main_v23
  let main_v25 : FVec F S_ .f32 := mulf main_v9 main_v24
  let main_cst_7 : FVec F S_ .f32 := constant S_ .f32 0xBC8BFC66#32
  let main_v26 : FVec F S_ .f32 := mulf main_cst_7 main_v25
  let main_v27 : FVec F S_ .f32 := addf main_v22 main_v26
  let main_v28 : FVec F S_ .f32 := mulf main_v9 main_v9
  let main_v29 : FVec F S_ .f32 := mulf main_v28 main_v28
  let main_v30 : FVec F S_ .f32 := mulf main_v28 main_v29
  let main_cst_8 : FVec F S_ .f32 := constant S_ .f32 0x3BDA90C5#32
  let main_v31 : FVec F S_ .f32 := mulf main_cst_8 main_v30
  let main_v32 : FVec F S_ .f32 := addf main_v27 main_v31
  let main_v33 : FVec F S_ .f32 := mulf main_v9 main_v9
  let main_v34 : FVec F S_ .f32 := mulf main_v9 main_v33
  let main_v35 : FVec F S_ .f32 := mulf main_v33 main_v33
  let main_v36 : FVec F S_ .f32 := mulf main_v34 main_v35
  let main_cst_9 : FVec F S_ .f32 := constant S_ .f32 0xBAA57A2C#32
  fn_part2 (F := F) main_arg0 main_arg1 main_arg2 main_v8 main_v9 main_v32 main_v36 main_cst_9

def fn {F : FTy → Type} [FloatOps F] (main_arg0 : FVec F S1408 .f32) (main_arg1 : FVec F S1408 .f32) (main_arg2 : FVec F S50000x1408 .f32) : IVec S_ 1 × IVec S50000 1 :=
  let main_v0 : FVec F S_ .f32 := fn_norm (F := F) main_arg0
  let main_v1 : FVec F S_ .f32 := fn_norm (F := F) main_arg1
  let main_v2 : FVec F S1408 .f32 := broadcastInDim S1408 ![] bcast_S_S1408 main_v0
  let main_v3 : FVec F S1408 .f32 := Host.divf main_arg0 main_v2
  let main_v4 : FVec F S1408 .f32 := broadcastInDim S1408 ![] bcast_S_S1408 main_v1
  let main_v5 : FVec F S1408 .f32 := Host.divf main_arg1 main_v4
  let main_v6 : FVec F S1408 .f32 := mulf main_v3 main_v5
  let main_cst : FVec F S_ .f32 := constant S_ .f32 0x00000000#32
  let main_v7 : FVec F S_ .f32 := (fun x v => Host.reduceAdd x v reducesTo_S1408_S_d0 h_S_) main_v6 main_cst
  let main_cst_0 : FVec F S_ .f32 := constant S_ .f32 0xBF800000#32
  let main_cst_1 : FVec F S_ .f32 := constant S_ .f32 0x3F800000#32
  let main_v8 : FVec F S_ .f32 := fn_clip (F := F) main_v7 main_cst_0 main_cst_1
  let main_v9 : FVec F S_ .f32 := Host.absf main_v8
  let main_cst_2 : FVec F S_ .f32 := constant S_ .f32 0xBE5BBFCA#32
  let main_v10 : FVec F S_ .f32 := mulf main_cst_2 main_v9
  let main_cst_3 : FVec F S_ .f32 := constant S_ .f32 0x3FC90FDA#32
  let main_v11 : FVec F S_ .f32 := addf main_cst_3 main_v10
  let main_v12 : FVec F S_ .f32 := mulf main_v9 main_v9
  let main_cst_4 : FVec F S_ .f32 := constant S_ .f32 0x3DB63A9E#32
  let main_v13 : FVec F S_ .f32 := mulf main_cst_4 main_v12
  let main_v14 : FVec F S_ .f32 := addf main_v11 main_v13
  let main_v15 : FVec F S_ .f32 := mulf main_v9 main_v9
  let main_v16 : FVec F S_ .f32 := mulf main_v15 main_v9
  let main_cst_5 : FVec F S_ .f32 := constant S_ .f32 0xBD4D8392#32
  fn_part1 (F := F) main_arg0 main_arg1 main_arg2 main_v8 main_v9 main_v14 main_v16 main_cst_5
-- ==== Kernel.lean ====
abbrev S1408 : Shape := ⟨1, ![1408]⟩
abbrev S50000x1408 : Shape := ⟨2, ![50000, 1408]⟩
abbrev S1x1408 : Shape := ⟨2, ![1, 1408]⟩
abbrev S1x128 : Shape := ⟨2, ![1, 128]⟩
abbrev S1x10 : Shape := ⟨2, ![1, 10]⟩
abbrev S10 : Shape := ⟨1, ![10]⟩
abbrev S2000x1408 : Shape := ⟨2, ![2000, 1408]⟩
abbrev S8x1408 : Shape := ⟨2, ![8, 1408]⟩
abbrev S25x2000 : Shape := ⟨2, ![25, 2000]⟩
abbrev S1x1x1408 : Shape := ⟨3, ![1, 1, 1408]⟩
abbrev S1 : Shape := ⟨1, ![1]⟩
abbrev S1x1x1 : Shape := ⟨3, ![1, 1, 1]⟩
abbrev S2000 : Shape := ⟨1, ![2000]⟩
abbrev S2000x1 : Shape := ⟨2, ![2000, 1]⟩
abbrev S8x2000 : Shape := ⟨2, ![8, 2000]⟩
abbrev S1x2000 : Shape := ⟨2, ![1, 2000]⟩
abbrev S1x25x2000 : Shape := ⟨3, ![1, 25, 2000]⟩

abbrev nBuf : Space → Nat
  | .hbm => 11
  | .vmem => 8
  | .smem => 0
  | _ => 0

abbrev bufTy : (tb : Table) → Fin (tcTables nBuf tb) → BufTy
  | .hbm, ⟨0, _⟩ => ⟨S1408, .f32⟩
  | .hbm, ⟨1, _⟩ => ⟨S1408, .f32⟩
  | .hbm, ⟨2, _⟩ => ⟨S50000x1408, .f32⟩
  | .hbm, ⟨3, _⟩ => ⟨S1x1408, .f32⟩
  | .hbm, ⟨4, _⟩ => ⟨S1x1408, .f32⟩
  | .hbm, ⟨5, _⟩ => ⟨S1x128, .f32⟩
  | .hbm, ⟨6, _⟩ => ⟨S1x128, .i32⟩
  | .hbm, ⟨7, _⟩ => ⟨S1x10, .f32⟩
  | .hbm, ⟨8, _⟩ => ⟨S10, .f32⟩
  | .hbm, ⟨9, _⟩ => ⟨S1x10, .i32⟩
  | .hbm, ⟨10, _⟩ => ⟨S10, .i32⟩
  | .local _ .vmem, ⟨0, _⟩ => ⟨S1x1408, .f32⟩
  | .local _ .vmem, ⟨1, _⟩ => ⟨S1x1408, .f32⟩
  | .local _ .vmem, ⟨2, _⟩ => ⟨S2000x1408, .f32⟩
  | .local _ .vmem, ⟨3, _⟩ => ⟨S2000x1408, .f32⟩
  | .local _ .vmem, ⟨4, _⟩ => ⟨S1x128, .f32⟩
  | .local _ .vmem, ⟨5, _⟩ => ⟨S1x128, .i32⟩
  | .local _ .vmem, ⟨6, _⟩ => ⟨S8x1408, .f32⟩
  | .local _ .vmem, ⟨7, _⟩ => ⟨S25x2000, .f32⟩
  | _, _ => ⟨S1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2_0 : Ref sig .tc := ⟨.hbm, 5, rfl⟩
abbrev main_call0_v2_1 : Ref sig .tc := ⟨.hbm, 6, rfl⟩
abbrev main_call0_v3 : Ref sig .tc := ⟨.hbm, 7, rfl⟩
abbrev main_v0_0 : Ref sig .tc := ⟨.hbm, 8, rfl⟩
abbrev main_call0_v5 : Ref sig .tc := ⟨.hbm, 9, rfl⟩
abbrev main_v0_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let v17 : Index := Scalar.indexCast arg0
  let c0_6 : Index := 0#32
  ![v17.toNat, 0]
def k0_cond2 (i : grid0.Coords) : BitVec 1 :=
  let arg0 : BitVec 32 := BitVec.ofNat 32 (i 0).val
  let c24_i32 : BitVec 32 := 24#32
  let v21 : BitVec 1 := Scalar.cmpi .eq arg0 c24_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S1408 : Shape := ⟨1, ![1408]⟩
abbrev S50000x1408 : Shape := ⟨2, ![50000, 1408]⟩
abbrev S_ : Shape := ⟨0, ![]⟩
abbrev S50000 : Shape := ⟨1, ![50000]⟩
abbrev S50000x1 : Shape := ⟨2, ![50000, 1]⟩
abbrev S10 : Shape := ⟨1, ![10]⟩

abbrev nBuf : Space → Nat
  | .hbm => 114
  | .vmem => 0
  | .smem => 0
  | _ => 0

abbrev bufTy : (tb : Table) → Fin (tcTables nBuf tb) → BufTy
  | .hbm, ⟨0, _⟩ => ⟨S1408, .f32⟩
  | .hbm, ⟨1, _⟩ => ⟨S1408, .f32⟩
  | .hbm, ⟨2, _⟩ => ⟨S50000x1408, .f32⟩
  | .hbm, ⟨3, _⟩ => ⟨S1408, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1408, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1408, .f32⟩
  | .hbm, ⟨12, _⟩ => ⟨S1408, .f32⟩
  | .hbm, ⟨13, _⟩ => ⟨S1408, .f32⟩
  | .hbm, ⟨14, _⟩ => ⟨S1408, .f32⟩
  | .hbm, ⟨15, _⟩ => ⟨S1408, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .i1⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .i1⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1408, .f32⟩
  | .hbm, ⟨91, _⟩ => ⟨S1408, .f32⟩
  | .hbm, ⟨92, _⟩ => ⟨S1408, .f32⟩
  | .hbm, ⟨93, _⟩ => ⟨S1408, .f32⟩
  | .hbm, ⟨94, _⟩ => ⟨S1408, .f32⟩
  | .hbm, ⟨95, _⟩ => ⟨S_, .f32⟩
  | .hbm, ⟨96, _⟩ => ⟨S_, .i1⟩
  | .hbm, ⟨97, _⟩ => ⟨S1408, .f32⟩
  | .hbm, ⟨98, _⟩ => ⟨S1408, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S1408, .f32⟩
  | .hbm, ⟨103, _⟩ => ⟨S1408, .f32⟩
  | .hbm, ⟨104, _⟩ => ⟨S50000x1408, .f32⟩
  | .hbm, ⟨105, _⟩ => ⟨S_, .f32⟩
  | .hbm, ⟨106, _⟩ => ⟨S50000, .f32⟩
  | .hbm, ⟨107, _⟩ => ⟨S50000x1, .f32⟩
  | .hbm, ⟨108, _⟩ => ⟨S50000x1, .f32⟩
  | .hbm, ⟨109, _⟩ => ⟨S50000x1408, .f32⟩
  | .hbm, ⟨110, _⟩ => ⟨S50000x1408, .f32⟩
  | .hbm, ⟨111, _⟩ => ⟨S50000, .f32⟩
  | .hbm, ⟨112, _⟩ => ⟨S10, .f32⟩
  | .hbm, ⟨113, _⟩ => ⟨S10, .i32⟩
  | _, _ => ⟨S1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v0 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_cst_1 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_8 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_9 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩
abbrev main_cst_12 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_13 : Ref sig .tc := ⟨.hbm, 72, rfl⟩
abbrev main_v46 : Ref sig .tc := ⟨.hbm, 73, rfl⟩
abbrev main_v47 : Ref sig .tc := ⟨.hbm, 74, rfl⟩
abbrev main_cst_14 : Ref sig .tc := ⟨.hbm, 75, rfl⟩
abbrev main_v48 : Ref sig .tc := ⟨.hbm, 76, rfl⟩
abbrev main_cst_15 : Ref sig .tc := ⟨.hbm, 77, rfl⟩
abbrev main_call4_v0 : Ref sig .tc := ⟨.hbm, 78, rfl⟩
abbrev main_v49 : Ref sig .tc := ⟨.hbm, 79, rfl⟩
abbrev main_v50 : Ref sig .tc := ⟨.hbm, 80, rfl⟩
abbrev main_cst_16 : Ref sig .tc := ⟨.hbm, 81, rfl⟩
abbrev main_v51 : Ref sig .tc := ⟨.hbm, 82, rfl⟩
abbrev main_v52 : Ref sig .tc := ⟨.hbm, 83, rfl⟩
abbrev main_cst_17 : Ref sig .tc := ⟨.hbm, 84, rfl⟩
abbrev main_v53 : Ref sig .tc := ⟨.hbm, 85, rfl⟩
abbrev main_cst_18 : Ref sig .tc := ⟨.hbm, 86, rfl⟩
abbrev main_call5_v0 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_19 : Ref sig .tc := ⟨.hbm, 95, rfl⟩
abbrev main_v61 : Ref sig .tc := ⟨.hbm, 96, rfl⟩
abbrev main_v62 : Ref sig .tc := ⟨.hbm, 97, rfl⟩
abbrev main_call7_v0 : Ref sig .tc := ⟨.hbm, 98, rfl⟩
abbrev main_call7_cst : Ref sig .tc := ⟨.hbm, 99, rfl⟩
abbrev main_call7_v1 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_call8_v0 : Ref sig .tc := ⟨.hbm, 104, rfl⟩
abbrev main_call8_cst : Ref sig .tc := ⟨.hbm, 105, rfl⟩
abbrev main_call8_v1 : Ref sig .tc := ⟨.hbm, 106, rfl⟩
abbrev main_call8_v2 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_values : Ref sig .tc := ⟨.hbm, 112, rfl⟩
abbrev main_indices : Ref sig .tc := ⟨.hbm, 113, rfl⟩

abbrev nD : Nat := 1
abbrev τ : Topo := Topo.v7x

variable {F : FTy → Type} [FloatOps F]
-- ==== Proof.Rounds.lean ====
/- The kernel's selection at the last point, as ten repetitions of one step: the greatest entry, the least flat index at
   which it stands, and that index struck out. Each payload of the last point's program is one of these, by unfolding. -/
module

public import proofs.«01_k».proof.Proof.Gen.KernelIdeal.Skeleton

@[expose] public section

set_option maxRecDepth 16384

noncomputable section

namespace Cert.KernelIdeal.Rounds

open Idealize.ShloMosaic Idealize.SL.Sem Cert.KernelIdeal.Gen

variable {F : FTy → Type} [FloatOps F]

/-- The greatest entry of the similarity matrix. -/
def top (x : FVec F S25x2000 .f32) : F .f32 :=
  extractAt ![0, 0, 0] (shapeCast S1x1x1 (multiReduction .maximumf [1, 2] S1
    (shapeCast S1x25x2000 x shapeCasts_S25x2000_S1x25x2000) 0xFF800000#32 reduces_S1x25x2000_S1 (.inl rfl) rfl)
    shapeCasts_S1_S1x1x1) inpos_S1x1x1_p0_0_0

/-- The least flat index at which `v` stands in the matrix. -/
def place (x : FVec F S25x2000 .f32) (v : F .f32) : BitVec 32 :=
  extractAt ![0, 0, 0] (shapeCast S1x1x1 (multiReductionI .minsi [1, 2] S1
    (shapeCast S1x25x2000 (select (cmpf .oeq x (broadcast S25x2000 v)) k0_pay10 (broadcast S25x2000 2147483647#32))
      shapeCasts_S25x2000_S1x25x2000) 2147483647#32 reduces_S1x25x2000_S1 rfl)
    shapeCasts_S1_S1x1x1) inpos_S1x1x1_p0_0_0

/-- The matrix with the entry at flat index `p` struck out. -/
def strike (x : FVec F S25x2000 .f32) (p : BitVec 32) : FVec F S25x2000 .f32 :=
  select (cmpi .eq k0_pay10 (broadcast S25x2000 p)) (broadcast S25x2000 (Scalar.ofBits .f32 0xFF800000#32)) x

/-- What is left of the matrix after `n` rounds. -/
def left (x : FVec F S25x2000 .f32) : ℕ → FVec F S25x2000 .f32
  | 0 => x
  | n + 1 => strike (left x n) (place (left x n) (top (left x n)))

/-- The lane numbers of a row of 128. -/
abbrev lanes : IVec S1x128 32 := iota .tc S1x128 32 [1] iota_S1x128_d1_w32

/-- The row with lane `j` replaced by `v`. -/
def putF (j : BitVec 32) (v : F .f32) (acc : FVec F S1x128 .f32) : FVec F S1x128 .f32 :=
  select (cmpi .eq lanes (broadcast S1x128 j)) (broadcast S1x128 v) acc

/-- The row with lane `j` replaced by `v`. -/
def putI (j : BitVec 32) (v : BitVec 32) (acc : IVec S1x128 32) : IVec S1x128 32 :=
  select (cmpi .eq lanes (broadcast S1x128 j)) (broadcast S1x128 v) acc

/-- The value row after `n` rounds. -/
def tops (x : FVec F S25x2000 .f32) : ℕ → FVec F S1x128 .f32
  | 0 => broadcast S1x128 (Scalar.ofBits .f32 0xFF800000#32)
  | n + 1 => putF (BitVec.ofNat 32 n) (top (left x n)) (tops x n)

/-- The index row after `n` rounds. -/
def places (x : FVec F S25x2000 .f32) : ℕ → IVec S1x128 32
  | 0 => broadcast S1x128 0#32
  | n + 1 => putI (BitVec.ofNat 32 n) (place (left x n) (top (left x n))) (places x n)

variable (x : FVec F S25x2000 .f32) (p : BitVec 32) (v : F .f32) (f : FVec F S1x128 .f32) (g : IVec S1x128 32)
  (j : BitVec 32)

theorem pay12 : k0_pay12 x = tops x 1 := rfl
theorem pay13 : k0_pay13 x = places x 1 := rfl
theorem pay14 : k0_pay14 x = left x 1 := rfl
theorem pay15 : k0_pay15 x = top (left x 1) := rfl
theorem pay16 : extractAt ![0, 0, 0] (k0_pay16 x) inpos_S1x1x1_p0_0_0 = place (left x 1) (top (left x 1)) := rfl

theorem pay19 : k0_pay19 k0_pay10 lanes f x v p j = putF 2#32 (top (strike x p)) (putF j v f) := rfl
theorem pay20 : k0_pay20 k0_pay10 lanes g x p
    = putI 2#32 (place (strike x p) (top (strike x p))) (putI 1#32 p g) := rfl
theorem pay21 : k0_pay21 k0_pay10 x p = strike (strike x p) (place (strike x p) (top (strike x p))) := rfl
theorem pay22 : k0_pay22 k0_pay10 x p = top (strike (strike x p) (place (strike x p) (top (strike x p)))) := rfl
theorem pay23 : extractAt ![0, 0, 0] (k0_pay23 k0_pay10 x p) inpos_S1x1x1_p0_0_0
    = place (strike (strike x p) (place (strike x p) (top (strike x p))))
      (top (strike (strike x p) (place (strike x p) (top (strike x p))))) := rfl

theorem pay26 : k0_pay26 k0_pay10 lanes f x v p j = putF 4#32 (top (strike x p)) (putF j v f) := rfl
theorem pay27 : k0_pay27 k0_pay10 lanes g x p
    = putI 4#32 (place (strike x p) (top (strike x p))) (putI 3#32 p g) := rfl
theorem pay28 : k0_pay28 k0_pay10 x p = strike (strike x p) (place (strike x p) (top (strike x p))) := rfl
theorem pay29 : k0_pay29 k0_pay10 x p = top (strike (strike x p) (place (strike x p) (top (strike x p)))) := rfl
theorem pay30 : extractAt ![0, 0, 0] (k0_pay30 k0_pay10 x p) inpos_S1x1x1_p0_0_0
    = place (strike (strike x p) (place (strike x p) (top (strike x p))))
      (top (strike (strike x p) (place (strike x p) (top (strike x p))))) := rfl

theorem pay33 : k0_pay33 k0_pay10 lanes f x v p j = putF 6#32 (top (strike x p)) (putF j v f) := rfl
theorem pay34 : k0_pay34 k0_pay10 lanes g x p
    = putI 6#32 (place (strike x p) (top (strike x p))) (putI 5#32 p g) := rfl
theorem pay35 : k0_pay35 k0_pay10 x p = strike (strike x p) (place (strike x p) (top (strike x p))) := rfl
theorem pay36 : k0_pay36 k0_pay10 x p = top (strike (strike x p) (place (strike x p) (top (strike x p)))) := rfl
theorem pay37 : extractAt ![0, 0, 0] (k0_pay37 k0_pay10 x p) inpos_S1x1x1_p0_0_0
    = place (strike (strike x p) (place (strike x p) (top (strike x p))))
      (top (strike (strike x p) (place (strike x p) (top (strike x p))))) := rfl

theorem pay40 : k0_pay40 k0_pay10 lanes f x v p j = putF 8#32 (top (strike x p)) (putF j v f) := rfl
theorem pay41 : k0_pay41 k0_pay10 lanes g x p
    = putI 8#32 (place (strike x p) (top (strike x p))) (putI 7#32 p g) := rfl
theorem pay43 : k0_pay43 k0_pay10 x p = top (strike (strike x p) (place (strike x p) (top (strike x p)))) := rfl
theorem pay44 : extractAt ![0, 0, 0] (k0_pay44 k0_pay10 x p) inpos_S1x1x1_p0_0_0
    = place (strike (strike x p) (place (strike x p) (top (strike x p))))
      (top (strike (strike x p) (place (strike x p) (top (strike x p))))) := rfl

theorem pay3 : k0_pay3 lanes f v j = putF j v f := rfl
theorem pay4 : k0_pay4 lanes g p = putI 9#32 p g := rfl

end Cert.KernelIdeal.Rounds

end
-- ==== Proof.Runs.lean ====
/- The body's three runs: at the first point (the query is made), at a point in between, at the last point (the
   selection). Each states what the scratch buffers, and at the last point the outputs, hold afterwards. -/
module

public import proofs.«01_k».proof.Proof.Rounds
public import proofs.«01_k».proof.Proof.Gen.KernelIdeal.Frame
public import Idealize.ShloMosaic.Lib.Ring
public import Idealize.ShloMosaic.Lib.Tactic
public import Idealize.ShloMosaic.Lib.WordCmp
public import Idealize.ShloMosaic.Lib.WritesUnit
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.KernelIdeal.Rounds

variable {F : FTy → Type} [FloatOps F]

local notation "𝕄" => MT nD τ sig Unit (Elt F) ℕ (UR sig nD τ) ℕ

/-- The condition of the first conditional: the point is the first one. -/
abbrev atFirst (i : grid0.Coords) : Prop :=
  (Scalar.cmpi .ne (Scalar.extui (Scalar.cmpi .eq (BitVec.ofNat 32 (i 0).val) 0#32)) 0#32) = 1#1
/-- The condition of the second: the point is the last one. -/
abbrev atLast (i : grid0.Coords) : Prop := k0_cond2 i = 1#1

theorem coord_val (t : Fin cfg0.N) : (grid0.coords t 0).val = t.val % 25 := by
  have e : (grid0.coords t 0).val = t.val / 1 % 25 := Pipeline.Grid.coords_val t 0 (by decide) rfl
  rw [e, Nat.div_one]

theorem atFirst_iff (t : Fin cfg0.N) : atFirst (grid0.coords t) ↔ t.val % 25 = 0 := by
  have hN : t.val < 25 := lt_of_lt_of_eq t.isLt (show cfg0.N = 25 from N_0)
  have e := coord_val t
  simp only [atFirst, e]
  word_cmp

theorem atLast_iff (t : Fin cfg0.N) : atLast (grid0.coords t) ↔ t.val % 25 = 24 := by
  have hN : t.val < 25 := lt_of_lt_of_eq t.isLt (show cfg0.N = 25 from N_0)
  have e := coord_val t
  simp only [atLast, k0_cond2, e]
  word_cmp

/-- The query as the first point leaves it in its scratch buffer: eight equal rows. -/
def query (a b : Vec F S1x1408 .f32) : FVec F S8x1408 .f32 :=
  k0_pay1 (k0_pay5 a) (k0_pay6 b) (k0_pay7 a b) (k0_pay8 a b) (k0_pay9 a b) (Scalar.ofBits .f32 0x3F800000#32)

/-- The index of column `j` of a one-row block. -/
def inRow (j : Fin 2000) : S1x2000.Idx := fun a => match a with | ⟨0, _⟩ => ⟨0, Nat.one_pos⟩ | ⟨1, _⟩ => j

/-- The similarity matrix with row `r` replaced by `w`. -/
def putRow (r : ℕ) (w : FVec F S1x2000 .f32) (d : Vec F S25x2000 .f32) : Vec F S25x2000 .f32 :=
  fun e => if (e 0).val = r then w (inRow (e 1)) else d e

section Reads
variable {κ : Kind} {sp : Space} {Val : EltTy → Type}

/-- A store over the whole shape leaves its payload. -/
theorem read_whole {S : Shape} {e : EltTy} (v : View sig κ sp S e) (f : v.ty.Contents Val) {off : Fin S.rank → ℕ}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w :=
  funext fun y => View.read_writes_cons_unit_of_mem v f inb w L y y h fun _ => (Nat.zero_add _).symm

/-- A load of the whole shape reads the contents. -/
theorem load_whole {S : Shape} {e : EltTy} (v : View sig κ sp S e) (f : v.ty.Contents Val) {off : Fin S.rank → ℕ}
    (h : off = fun _ => 0) (inb : ∀ a, off a + S.size a ≤ S.size a) :
    v.readAt Val (Rect.unit off S.size inb) f = v.read Val f := by
  rw [View.readAt_eq_ld, View.ld_unit_zero h]

end Reads

theorem zeros2 : (![0, 0] : Fin 2 → ℕ) = fun _ => 0 := by decide

/-- A store of one row of the similarity matrix. -/
theorem read_row {κ : Kind} {sp : Space} (v : View sig κ sp S25x2000 .f32) (f : v.ty.Contents (Elt F)) (i : grid0.Coords)
    (w : FVec F S1x2000 .f32) :
    v.read (Elt F) (v.writes (Elt F) f
      [(⟨Rect.unit (s := S25x2000) (k0_off1 i) S1x2000.size (k0_off1_inb i), w⟩ : View.Piece (Elt F) S25x2000 .f32)])
      = putRow (i 0).val w (v.read (Elt F) f) := by
  funext y
  by_cases h : (y 0).val = (i 0).val
  · refine (View.read_writes_cons_rows_of_mem v f (k0_off1_inb i) w [] y
      (inRow (y 1)) (k0_off1_eq i)
      (h.trans (Nat.add_zero _).symm) rfl).trans ?_
    unfold putRow; rw [if_pos h]
  · refine (View.read_writes_cons_rows_of_not_mem v f (k0_off1_inb i) w [] y (W := 1) (k0_off1_eq i) rfl
      (by omega)).trans ?_
    unfold putRow; rw [if_neg h]; rfl

variable (c : Dev nD) (i : grid0.Coords) (arg1 : Memref sig .tc .vmem S1x1408 .f32) (harg1 : arg1.IsWhole)
  (arg2 : Memref sig .tc .vmem S1x1408 .f32) (harg2 : arg2.IsWhole) (arg3 : Memref sig .tc .vmem S2000x1408 .f32)
  (harg3 : arg3.IsWhole) (arg4 : Memref sig .tc .vmem S1x128 .f32) (harg4 : arg4.IsWhole)
  (arg5 : Memref sig .tc .vmem S1x128 .i32) (harg5 : arg5.IsWhole) (arg6 : Memref sig .tc .vmem S8x1408 .f32)
  (harg6 : arg6.IsWhole) (arg7 : Memref sig .tc .vmem S25x2000 .f32) (harg7 : arg7.IsWhole)
  (x0 x1 : Vec F S1x1408 .f32) (x2 : Vec F S2000x1408 .f32) (q : Vec F S8x1408 .f32) (d : Vec F S25x2000 .f32)

set_option maxHeartbeats 1000000 in
/-- The first point: the query is made and the first row of similarities stored. -/
theorem run_first (hc0 : atFirst i) (hc1 : ¬ atLast i) (E : Set ℕ) (K : PUnit → sProp 𝕄) :
    iprop(owns (c : Thread nD τ) arg1 fullShare x0 ∗ owns (c : Thread nD τ) arg2 fullShare x1
      ∗ owns (c : Thread nD τ) arg3 fullShare x2 ∗ (∃ d, owns (c : Thread nD τ) arg6 fullShare d)
      ∗ owns (c : Thread nD τ) arg7 fullShare d
      ∗ (iprop(owns (c : Thread nD τ) arg1 fullShare x0 ∗ owns (c : Thread nD τ) arg2 fullShare x1
          ∗ owns (c : Thread nD τ) arg3 fullShare x2 ∗ owns (c : Thread nD τ) arg6 fullShare (query x0 x1)
          ∗ owns (c : Thread nD τ) arg7 fullShare (putRow (i 0).val (k0_pay2 x2 (query x0 x1)) d)) -∗ K ⟨⟩))
    ⊢ wp frame (wpE (defs₀ (F := F)) Variants.none c none) E (cc0__reranker_body i arg1 harg1 arg2 harg2 arg3 harg3 arg4 harg4 arg5 harg5 arg6 harg6 arg7 harg7) K := by
  simp only [cc0__reranker_body_eq_skeleton]; unfold cc0__reranker_body_skel
  simp only [k0_part1_eq_skeleton]
  unfold owns
  iintro ⟨⟨%f0, %hf0, H0⟩, ⟨%f1, %hf1, H1⟩, ⟨%f2, %hf2, H2⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg7.eq_unread hfs1
  have e1 : ∀ inb, View.readAt (Elt F) arg1.view (Rect.unit (s := S1x1408) ![0, 0] ![1, 1408] inb).toLoadRect (harg1.unread x0) = x0 :=
    fun inb => (load_whole (S := S1x1408) _ _ zeros2 inb).trans (harg1.read_unread _)
  have e2 : ∀ inb, View.readAt (Elt F) arg2.view (Rect.unit (s := S1x1408) ![0, 0] ![1, 1408] inb).toLoadRect (harg2.unread x1) = x1 :=
    fun inb => (load_whole (S := S1x1408) _ _ zeros2 inb).trans (harg2.read_unread _)
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr; swap; · iexact HS0
    ipureintro
    sl_unfold_run_names
    refine (read_whole arg6.view fs0 zeros2 _ _ []).trans ?_
    rfl
  iexists _; isplitr; swap; · iexact HS1
  ipureintro
  sl_unfold_run_names
  refine (read_row arg7.view (harg7.unread d) i _).trans ?_
  rw [harg7.read_unread]
  refine congrArg (fun w => putRow (i 0).val w d) ?_
  refine congrArg₂ k0_pay2 ((load_whole _ _ zeros2 _).trans (harg3.read_unread _)) ?_
  refine (load_whole _ _ zeros2 _).trans ((read_whole _ _ zeros2 _ _ []).trans ?_)
  rfl

set_option maxHeartbeats 1000000 in
/-- A point in between: one row of similarities is stored. -/
theorem run_inner (hc0 : ¬ atFirst i) (hc1 : ¬ atLast i) (E : Set ℕ) (K : PUnit → sProp 𝕄) :
    iprop(owns (c : Thread nD τ) arg1 fullShare x0 ∗ owns (c : Thread nD τ) arg2 fullShare x1
      ∗ owns (c : Thread nD τ) arg3 fullShare x2 ∗ owns (c : Thread nD τ) arg6 fullShare q
      ∗ owns (c : Thread nD τ) arg7 fullShare d
      ∗ (iprop(owns (c : Thread nD τ) arg1 fullShare x0 ∗ owns (c : Thread nD τ) arg2 fullShare x1
          ∗ owns (c : Thread nD τ) arg3 fullShare x2 ∗ owns (c : Thread nD τ) arg6 fullShare q
          ∗ owns (c : Thread nD τ) arg7 fullShare (putRow (i 0).val (k0_pay2 x2 q) d)) -∗ K ⟨⟩))
    ⊢ wp frame (wpE (defs₀ (F := F)) Variants.none c none) E (cc0__reranker_body i arg1 harg1 arg2 harg2 arg3 harg3 arg4 harg4 arg5 harg5 arg6 harg6 arg7 harg7) K := by
  simp only [cc0__reranker_body_eq_skeleton]; unfold cc0__reranker_body_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg6.eq_unread hfs0; obtain rfl := harg7.eq_unread hfs1
  have e3 : ∀ inb, View.readAt (Elt F) arg3.view (Rect.unit (s := S2000x1408) ![0, 0] ![2000, 1408] inb).toLoadRect (harg3.unread x2) = x2 :=
    fun inb => (load_whole (S := S2000x1408) _ _ zeros2 inb).trans (harg3.read_unread _)
  have e6 : ∀ inb, View.readAt (Elt F) arg6.view (Rect.unit (s := S8x1408) ![0, 0] ![8, 1408] inb).toLoadRect (harg6.unread q) = q :=
    fun inb => (load_whole (S := S8x1408) _ _ zeros2 inb).trans (harg6.read_unread _)
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr; · ipureintro; exact harg6.read_unread _
    iexact HS0
  iexists _; isplitr; swap; · iexact HS1
  ipureintro
  sl_unfold_run_names
  refine (read_row arg7.view (harg7.unread d) i _).trans ?_
  rw [harg7.read_unread]

set_option maxHeartbeats 1000000 in
/-- The last point: the last row of similarities is stored, and the ten greatest entries with their places are put out. -/
theorem run_last (hc0 : ¬ atFirst i) (hc1 : atLast i) (E : Set ℕ) (K : PUnit → sProp 𝕄) :
    iprop(owns (c : Thread nD τ) arg1 fullShare x0 ∗ owns (c : Thread nD τ) arg2 fullShare x1
      ∗ owns (c : Thread nD τ) arg3 fullShare x2 ∗ (∃ d, owns (c : Thread nD τ) arg4 fullShare d)
      ∗ (∃ d, owns (c : Thread nD τ) arg5 fullShare d) ∗ owns (c : Thread nD τ) arg6 fullShare q
      ∗ owns (c : Thread nD τ) arg7 fullShare d
      ∗ (iprop(owns (c : Thread nD τ) arg1 fullShare x0 ∗ owns (c : Thread nD τ) arg2 fullShare x1
          ∗ owns (c : Thread nD τ) arg3 fullShare x2
          ∗ owns (c : Thread nD τ) arg4 fullShare (tops (putRow (i 0).val (k0_pay2 x2 q) d) 10)
          ∗ owns (c : Thread nD τ) arg5 fullShare (places (putRow (i 0).val (k0_pay2 x2 q) d) 10)
          ∗ owns (c : Thread nD τ) arg6 fullShare q
          ∗ owns (c : Thread nD τ) arg7 fullShare (putRow (i 0).val (k0_pay2 x2 q) d)) -∗ K ⟨⟩))
    ⊢ wp frame (wpE (defs₀ (F := F)) Variants.none c none) E (cc0__reranker_body i arg1 harg1 arg2 harg2 arg3 harg3 arg4 harg4 arg5 harg5 arg6 harg6 arg7 harg7) K := by
  simp only [cc0__reranker_body_eq_skeleton]; unfold cc0__reranker_body_skel
  simp only [k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg6.eq_unread hfs0; obtain rfl := harg7.eq_unread hfs1
  have e3 : ∀ inb, View.readAt (Elt F) arg3.view (Rect.unit (s := S2000x1408) ![0, 0] ![2000, 1408] inb).toLoadRect (harg3.unread x2) = x2 :=
    fun inb => (load_whole (S := S2000x1408) _ _ zeros2 inb).trans (harg3.read_unread _)
  have e6 : ∀ inb, View.readAt (Elt F) arg6.view (Rect.unit (s := S8x1408) ![0, 0] ![8, 1408] inb).toLoadRect (harg6.unread q) = q :=
    fun inb => (load_whole (S := S8x1408) _ _ zeros2 inb).trans (harg6.read_unread _)
  have e7 : ∀ inb f, View.readAt (Elt F) arg7.view (Rect.unit (s := S25x2000) ![0, 0] S25x2000.size inb).toLoadRect f
      = arg7.view.read (Elt F) f :=
    fun inb f => load_whole (S := S25x2000) _ _ zeros2 inb
  have e8 : ∀ inb w, arg7.view.read (Elt F) (arg7.view.writes (Elt F) (harg7.unread d)
      [(⟨Rect.unit (s := S25x2000) (k0_off1 i) ![1, 2000] inb, w⟩ : View.Piece (Elt F) S25x2000 .f32)])
      = putRow (i 0).val w d :=
    fun inb w => (read_row arg7.view (harg7.unread d) i w).trans (by rw [harg7.read_unread])
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    sl_unfold_run_names
    refine (read_whole _ _ zeros2 _ _ []).trans ?_
    simp only [e3, e6, e7, e8]
    generalize putRow (i 0).val (k0_pay2 x2 q) d = D
    simp only [pay12, pay13, pay14, pay15, pay16, pay19, pay20, pay21, pay22, pay23, pay26, pay27, pay28, pay29, pay30,
      pay33, pay34, pay35, pay36, pay37, pay40, pay41, pay43, pay44, pay3, pay4]
    rfl
  isplitl [H4]
  · iexists _; isplitr; swap; · iexact H4
    ipureintro
    sl_unfold_run_names
    refine (read_whole _ _ zeros2 _ _ []).trans ?_
    simp only [e3, e6, e7, e8]
    generalize putRow (i 0).val (k0_pay2 x2 q) d = D
    simp only [pay12, pay13, pay14, pay15, pay16, pay19, pay20, pay21, pay22, pay23, pay26, pay27, pay28, pay29, pay30,
      pay33, pay34, pay35, pay36, pay37, pay40, pay41, pay43, pay44, pay3, pay4]
    rfl
  isplitl [HS0]
  · iexists _; isplitr; · ipureintro; exact harg6.read_unread _
    iexact HS0
  iexists _; isplitr; swap; · iexact HS1
  ipureintro
  sl_unfold_run_names
  refine (read_row arg7.view (harg7.unread d) i _).trans ?_
  rw [harg7.read_unread]

end Cert.KernelIdeal.Body

end
-- ==== Proof.KRun.lean ====
/- The kernel's launch: what the scratch buffers hold between the points, the body at every point, and the run, which
   leaves the ten greatest similarities and their places in the two output arrays. -/
module

public import proofs.«01_k».proof.Proof.Runs
public import Idealize.ShloMosaic.Lib.Pipeline.FrameBody
public import Idealize.ShloMosaic.Lib.Pipeline.FrameSuffix
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.KernelIdeal.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point `n` of the grid. -/
def pt (n : ℕ) (h : n < 25) : Fin cfg0.N := ⟨n, lt_of_lt_of_eq h (N_0 : cfg0.N = 25).symm⟩

/-- The blocks the body reads at point `t`. -/
def blkA (c : Dev nD) (t : Fin cfg0.N) : Vec F S1x1408 .f32 := iblk m c 0 t
def blkB (c : Dev nD) (t : Fin cfg0.N) : Vec F S1x1408 .f32 := iblk m c 1 t
def blkV (c : Dev nD) (t : Fin cfg0.N) : Vec F S2000x1408 .f32 := iblk m c 2 t

/-- The query the first point makes. -/
def qry (c : Dev nD) : Vec F S8x1408 .f32 := query (blkA m c (pt 0 (by decide))) (blkB m c (pt 0 (by decide)))

/-- The whole similarity matrix: row `r` is made at point `r`. -/
def sims (c : Dev nD) : Vec F S25x2000 .f32 :=
  fun e => k0_pay2 (blkV m c (pt (e 0).val (e 0).isLt)) (qry m c) (inRow (e 1))

/-- The first `n` rows of `d` are those of the similarity matrix. -/
def Upto (c : Dev nD) (n : ℕ) (d : Vec F S25x2000 .f32) : Prop := ∀ e : S25x2000.Idx, (e 0).val < n → d e = sims m c e

theorem upto_putRow (c : Dev nD) (t : Fin cfg0.N) (d : Vec F S25x2000 .f32) (h : Upto m c t.val d) :
    Upto m c (t.val + 1) (putRow t.val (k0_pay2 (blkV m c t) (qry m c)) d) := fun e he => by
  unfold putRow
  by_cases hr : (e 0).val = t.val
  · rw [if_pos hr]
    have ht : pt (e 0).val (e 0).isLt = t := Fin.ext hr
    unfold sims
    rw [ht]
  · rw [if_neg hr]; exact h e (by omega)

theorem upto_all (c : Dev nD) (d : Vec F S25x2000 .f32) (h : Upto m c 25 d) : d = sims m c :=
  funext fun e => h e (e 0).isLt

/-- The staging buffers at point `t`, and the two scratch buffers. -/
abbrev sm0 (t : Fin cfg0.N) : Memref sig .tc .vmem S1x1408 .f32 := win0_0.stage (cfg0.slots t 0)
abbrev sm1 (t : Fin cfg0.N) : Memref sig .tc .vmem S1x1408 .f32 := win0_1.stage (cfg0.slots t 1)
abbrev sm2 (t : Fin cfg0.N) : Memref sig .tc .vmem S2000x1408 .f32 := win0_2.stage (cfg0.slots t 2)
abbrev sm3 (t : Fin cfg0.N) : Memref sig .tc .vmem S1x128 .f32 := win0_3.stage (cfg0.slots t 3)
abbrev sm4 (t : Fin cfg0.N) : Memref sig .tc .vmem S1x128 .i32 := win0_4.stage (cfg0.slots t 4)
abbrev scQ : Memref sig .tc .vmem S8x1408 .f32 := Memref.whole cc0_scratch0
abbrev scS : Memref sig .tc .vmem S25x2000 .f32 := Memref.whole cc0_scratch1

theorem scratch_eq (c : Dev nD) : (Pipeline.ΦA spec0 c : sProp 𝕄)
    = iprop(iprop((∃ d, owns (c : Thread nD τ) scQ fullShare d) ∗ (∃ d, owns (c : Thread nD τ) scS fullShare d))
        ∗ (∃ r, prngReg c r)) := by
  unfold Pipeline.ΦA; rw [scopedRest0_eq]; simp only [scQ, scS, owns_whole]; try rfl

/-- What holds before point `n`: nothing is known before the first; then the query is there, and `n` rows are. -/
def Inv (c : Dev nD) : (n : ℕ) → n ≤ cfg0.N → sProp 𝕄
  | 0, _ => Pipeline.ΦA spec0 c
  | n + 1, _ => iprop(iprop(owns (c : Thread nD τ) scQ fullShare (qry m c)
      ∗ (∃ d, ⌜Upto m c (n + 1) d⌝ ∗ owns (c : Thread nD τ) scS fullShare d)) ∗ (∃ r, prngReg c r))

theorem Inv_zero (c : Dev nD) (n : ℕ) (h : n ≤ cfg0.N) (hz : n = 0) : Inv m c n h = Pipeline.ΦA spec0 c := by
  subst hz; rfl

theorem Inv_pos (c : Dev nD) (n : ℕ) (h : n ≤ cfg0.N) (hz : n ≠ 0) :
    Inv m c n h = iprop(iprop(owns (c : Thread nD τ) scQ fullShare (qry m c)
      ∗ (∃ d, ⌜Upto m c n d⌝ ∗ owns (c : Thread nD τ) scS fullShare d)) ∗ (∃ r, prngReg c r)) := by
  cases n with
  | zero => exact absurd rfl hz
  | succ n => rfl

/-- The proof data: the inputs keep their blocks, the outputs end at the selection's two rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tops (sims m c) 10
    | ⟨4, _⟩ => places (sims m c) 10
  Φ t := Inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Inv_castSucc (c : Dev nD) (t : Fin cfg0.N) :
    (dats m 0 c).Φ t.castSucc = Inv m c t.val (Nat.le_of_lt t.isLt) := by
  dsimp only [dats]; exact Pipeline.Dat.Φ_castSucc (Inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = tops (sims m c) 10 := by dsimp only [dats]
theorem after_4 (c : Dev nD) (t : Fin cfg0.N) : (dats m 0 c).after 4 t = places (sims m c) 10 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d)))

/-- What it returns. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem leaves_0 (c : Dev nD) (t : Fin cfg0.N) :
    (dats m 0 c).leavesExact 0 t = owns (c : Thread nD τ) (sm0 t) fullShare (blkA m c t) := by
  unfold Dat.leavesExact; rw [show cfg0.idle 0 (cfg0.grid.coords t) = false from rfl, after_0]; rfl
theorem leaves_1 (c : Dev nD) (t : Fin cfg0.N) :
    (dats m 0 c).leavesExact 1 t = owns (c : Thread nD τ) (sm1 t) fullShare (blkB m c t) := by
  unfold Dat.leavesExact; rw [show cfg0.idle 1 (cfg0.grid.coords t) = false from rfl, after_1]; rfl
theorem leaves_2 (c : Dev nD) (t : Fin cfg0.N) :
    (dats m 0 c).leavesExact 2 t = owns (c : Thread nD τ) (sm2 t) fullShare (blkV m c t) := by
  unfold Dat.leavesExact; rw [show cfg0.idle 2 (cfg0.grid.coords t) = false from rfl, after_2]; rfl

theorem idle_of (t : Fin cfg0.N) (h : ¬ atLast (grid0.coords t)) : (!(k0_cond2 (grid0.coords t) == 1#1)) = true := by
  rw [Bool.not_eq_true', beq_eq_false_iff_ne]; exact h
theorem live_of (t : Fin cfg0.N) (h : atLast (grid0.coords t)) : (!(k0_cond2 (grid0.coords t) == 1#1)) = false := by
  rw [Bool.not_eq_false', beq_iff_eq]; exact h

theorem leaves_3_last (c : Dev nD) (t : Fin cfg0.N) (h : atLast (grid0.coords t)) :
    (dats m 0 c).leavesExact 3 t = owns (c : Thread nD τ) (sm3 t) fullShare (tops (sims m c) 10) := by
  unfold Dat.leavesExact
  rw [show cfg0.idle 3 (cfg0.grid.coords t) = false from live_of t h, after_3]
theorem leaves_4_last (c : Dev nD) (t : Fin cfg0.N) (h : atLast (grid0.coords t)) :
    (dats m 0 c).leavesExact 4 t = owns (c : Thread nD τ) (sm4 t) fullShare (places (sims m c) 10) := by
  unfold Dat.leavesExact
  rw [show cfg0.idle 4 (cfg0.grid.coords t) = false from live_of t h, after_4]
theorem leaves_3_idle (c : Dev nD) (t : Fin cfg0.N) (h : ¬ atLast (grid0.coords t)) :
    (dats m 0 c).leavesExact 3 t = iprop(∃ d, owns (c : Thread nD τ) (sm3 t) fullShare ((dats m 0 c).before 3 t d)) :=
  (dats m 0 c).leavesExact_idle 3 t (idle_of t h)
    (Bool.eq_false_iff.mpr fun hf => h ((atLast_iff t).mpr ((flush0_3 t).mp hf)))
theorem leaves_4_idle (c : Dev nD) (t : Fin cfg0.N) (h : ¬ atLast (grid0.coords t)) :
    (dats m 0 c).leavesExact 4 t = iprop(∃ d, owns (c : Thread nD τ) (sm4 t) fullShare ((dats m 0 c).before 4 t d)) :=
  (dats m 0 c).leavesExact_idle 4 t (idle_of t h)
    (Bool.eq_false_iff.mpr fun hf => h ((atLast_iff t).mpr ((flush0_4 t).mp hf)))

set_option maxHeartbeats 4800000 in
/-- The body at any point. -/
theorem sound (c : Dev nD) (t : Fin cfg0.N) :
    pre m c t ⊢ wp frame (wpE (defs₀ (F := F)) Variants.none c none) Set.univ (bodyAt0 t) (fun _ => post m c t) := by
  have hN : t.val < 25 := lt_of_lt_of_eq t.isLt (show cfg0.N = 25 from N_0)
  have hr : (grid0.coords t 0).val = t.val := (coord_val t).trans (Nat.mod_eq_of_lt hN)
  unfold pre post bodyAt0
  simp only [before_0, before_1, before_2]
  rw [show (dats m 0 c).owesAt () t.succ = (dats m 0 c).owesAt () t.castSucc from rfl]
  rw [show (dats m 0 c).Φ t.succ = Inv m c (t.val + 1) t.isLt from rfl, Inv_pos m c (t.val + 1) _ (Nat.succ_ne_zero _)]
  rw [leaves_0, leaves_1, leaves_2, Inv_castSucc]
  by_cases h1 : t.val % 25 = 24
  · have hz : t.val ≠ 0 := by omega
    have hc0 : ¬ atFirst (grid0.coords t) := fun h => hz (by have := (atFirst_iff t).mp h; omega)
    have hc1 : atLast (grid0.coords t) := (atLast_iff t).mpr h1
    rw [leaves_3_last m c t hc1, leaves_4_last m c t hc1, Inv_pos m c _ _ hz]
    iintro ⟨⟨⟨HS0, ⟨%d, %hd, HS1⟩⟩, Hg⟩, Ho, ⟨%d0, H0⟩, ⟨%d1, H1⟩, ⟨%d2, H2⟩, ⟨%d3, H3⟩, ⟨%d4, H4⟩⟩
    have hu := upto_putRow m c t d hd
    have he : putRow t.val (k0_pay2 (blkV m c t) (qry m c)) d = sims m c :=
      upto_all m c _ (by rw [show (25 : ℕ) = t.val + 1 by omega]; exact hu)
    iapply (run_last c (grid0.coords t) _ _ _ _ _ _ _ _ _ _ _ _ _ _ (blkA m c t) (blkB m c t) (blkV m c t) (qry m c) d hc0 hc1 Set.univ _)
    rw [hr, he]
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]
        · iexact HS0
        iexists _; isplitr; swap; · iexact HS1
        ipureintro; exact he ▸ hu
      iexact Hg
    isplitl [Ho]; · iexact Ho
    isplitl [H0]; · iexact H0
    isplitl [H1]; · iexact H1
    isplitl [H2]; · iexact H2
    isplitl [H3]; · iexact H3
    iexact H4
  · have hc1 : ¬ atLast (grid0.coords t) := fun h => h1 ((atLast_iff t).mp h)
    rw [leaves_3_idle m c t hc1, leaves_4_idle m c t hc1]
    by_cases hz : t.val = 0
    · have hc0 : atFirst (grid0.coords t) := (atFirst_iff t).mpr (by omega)
      have hq : query (blkA m c t) (blkB m c t) = qry m c := by
        rw [show t = pt 0 (by decide) from Fin.ext hz]; rfl
      rw [Inv_zero m c _ _ hz, scratch_eq]
      iintro ⟨⟨⟨HS0, ⟨%d, HS1⟩⟩, Hg⟩, Ho, ⟨%d0, H0⟩, ⟨%d1, H1⟩, ⟨%d2, H2⟩, H3, H4⟩
      have hu := upto_putRow m c t d (fun e he => absurd he (by omega))
      iapply (run_first c (grid0.coords t) _ _ _ _ _ _ _ _ _ _ _ _ _ _ (blkA m c t) (blkB m c t) (blkV m c t) d hc0 hc1 Set.univ _)
      rw [hr, hq]
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · isplitl [HS0]
          · iexact HS0
          iexists _; isplitr; swap; · iexact HS1
          ipureintro; exact hu
        iexact Hg
      isplitl [Ho]; · iexact Ho
      isplitl [H0]; · iexact H0
      isplitl [H1]; · iexact H1
      isplitl [H2]; · iexact H2
      isplitl [H3]; · iexact H3
      iexact H4
    · have hc0 : ¬ atFirst (grid0.coords t) := fun h => hz (by have := (atFirst_iff t).mp h; omega)
      rw [Inv_pos m c _ _ hz]
      iintro ⟨⟨⟨HS0, ⟨%d, %hd, HS1⟩⟩, Hg⟩, Ho, ⟨%d0, H0⟩, ⟨%d1, H1⟩, ⟨%d2, H2⟩, H3, H4⟩
      have hu := upto_putRow m c t d hd
      iapply (run_inner c (grid0.coords t) _ _ _ _ _ _ _ _ _ _ _ _ _ _ (blkA m c t) (blkB m c t) (blkV m c t) (qry m c) d hc0 hc1 Set.univ _)
      rw [hr]
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hg]
      · isplitl [HS0 HS1]
        · isplitl [HS0]
          · iexact HS0
          iexists _; isplitr; swap; · iexact HS1
          ipureintro; exact hu
        iexact Hg
      isplitl [Ho]; · iexact Ho
      isplitl [H0]; · iexact H0
      isplitl [H1]; · iexact H1
      isplitl [H2]; · iexact H2
      isplitl [H3]; · iexact H3
      iexact H4

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

theorem inv_in (c : Dev nD) : Pipeline.ΦA spec0 c ⊢ (dats m 0 c).Φ 0 := by
  rw [show (dats m 0 c).Φ 0 = Inv m c 0 (Nat.zero_le _) from rfl, Inv_zero m c 0 _ rfl]
  try exact Idealize.SL.BI.Entails.refl _

theorem inv_out (c : Dev nD) : (dats m 0 c).Φ (Fin.last cfg0.N) ⊢ Pipeline.ΦA spec0 c := by
  have hN : cfg0.N = 25 := N_0
  rw [show (dats m 0 c).Φ (Fin.last cfg0.N) = Inv m c cfg0.N (Nat.le_refl _) from rfl,
    Inv_pos m c _ _ (by omega), scratch_eq]
  iintro ⟨⟨HS0, ⟨%d, -, HS1⟩⟩, Hg⟩
  isplitl [HS0 HS1]
  · isplitl [HS0]
    · iexists _; iexact HS0
    iexists _; iexact HS1
  iexact Hg

set_option backward.isDefEq.respectTransparency.types false in
set_option maxHeartbeats 800000 in
/-- The launch: the arrays at the proof data's contents, every other buffer as the lines after the region leave it, and
    every semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame: the arguments end as they began, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Body

end
-- ==== Proof.Frames.lean ====
/- The frames of the two programs read at the extended reals, and the precondition's side conditions. -/
module

public import proofs.«01_k».proof.Defs
public import proofs.«01_k».proof.Proof.KRun
public import proofs.«01_k».proof.Proof.Gen.ReferenceIdeal.Run
public import Idealize.ShloMosaic.Lib.Quiescent

@[expose] public section

noncomputable section

namespace Cert.Frames

open Idealize.ShloMosaic Idealize.SL.Sem

/-- The reference's frame, at any values: it has no semaphore at all. -/
theorem reference {F : FTy → Type} [FloatOps F]
    (m : (ℓ : Loc ReferenceIdeal.nD ReferenceIdeal.τ ReferenceIdeal.sig) → Buf (Elt F) ℓ) (ρ : Dev ReferenceIdeal.nD → PrngReg) :
    θ_run (ReferenceIdeal.defs (F := F)) (onTc (τ := ReferenceIdeal.τ) (ReferenceIdeal.main (F := F))) ⟨m, fun _ => 0, ρ⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2))
        ∧ r.2.sem = fun _ => 0) :=
  (θ_run _ _ _).mono (fun r h => ⟨fun c => (h c).2.2, sem_eq_zero_of_no_sems (by decide) r.2⟩)
    (ReferenceIdeal.Value.run m ρ)

/-- The precondition's side conditions. -/
theorem facts : Cert.Pre_vectors_nonzero.Facts where
  reducesTo_S1408_S_d0 := ReferenceIdeal.Gen.reducesTo_S1408_S_d0
  h_S_ := ReferenceIdeal.Gen.h_S_
  bcast_S_S1408 := ReferenceIdeal.Gen.bcast_S_S1408
  reducesTo_S50000x1408_S50000_d1 := ReferenceIdeal.Gen.reducesTo_S50000x1408_S50000_d1
  bcast_S_S50000 := by decide

end Cert.Frames

end
-- ==== Proof.Output.lean ====
/- What the launch leaves in the two result buffers. -/
module

public import proofs.«01_k».proof.Proof.KRun
public import Idealize.ShloMosaic.Lib.Pipeline.ValueKit
public import Idealize.ShloMosaic.Lib.StableHlo.Run

@[expose] public section

set_option maxRecDepth 16384

noncomputable section

namespace Cert.KernelIdeal.Output

open Idealize.ShloMosaic Idealize.ShloMosaic.TcCoe Idealize.SL.Sem
open Idealize.ShloMosaic.Pipeline (Dat Cfg Window cellOf)
open Cert.KernelIdeal.Gen Cert.KernelIdeal.Rounds Cert.KernelIdeal.Body

variable {F : FTy → Type} [FloatOps F]
variable (m : (ℓ : Loc nD τ sig) → Buf (Elt F) ℓ) (ρ : Dev nD → PrngReg)

theorem arr_inj : Function.Injective (Pipeline.arrRef spec0) := by decide

theorem arr_3 (c : Dev nD) : (dats m 0 c).arrAt 3 cfg0.N = (tops (sims m c) 10 : Vec F S1x128 .f32) := by
  refine (dats m 0 c).arrAt_eq_of_after_last 3 (pt 24 (by decide)) (by decide +kernel) _ fun j => ?_
  blk_simp [after_3]

theorem arr_4 (c : Dev nD) : (dats m 0 c).arrAt 4 cfg0.N = (places (sims m c) 10 : Vec F S1x128 .i32) := by
  refine (dats m 0 c).arrAt_eq_of_after_last 4 (pt 24 (by decide)) (by decide +kernel) _ fun j => ?_
  blk_simp [after_4]

theorem values (c : Dev nD) : Pipeline.afterTail₀ cfgs (dats m) 0 (V0 m) [hostOps1] c main_v0_0
    = (shapeCast S10 (extractStridedSlice S1x10 ![0, 0] (tops (sims m c) 10 : Vec F S1x128 .f32) slices_S1x128_S1x10_0_0)
        shapeCasts_S1x10_S10 : Vec F S10 .f32) := by
  unfold Pipeline.afterTail₀
  simp only [hostOps1, List.flatten_cons, List.flatten_nil, List.append_nil, List.cons_append, List.nil_append]
  after_results_simp
  rw [Pipeline.withArrays_arr cfg0.spec arr_inj c _ _ 3, arr_3]
  rfl

theorem indices (c : Dev nD) : Pipeline.afterTail₀ cfgs (dats m) 0 (V0 m) [hostOps1] c main_v0_1
    = (shapeCast S10 (extractStridedSlice S1x10 ![0, 0] (places (sims m c) 10 : Vec F S1x128 .i32) slices_S1x128_S1x10_0_0)
        shapeCasts_S1x10_S10 : Vec F S10 .i32) := by
  unfold Pipeline.afterTail₀
  simp only [hostOps1, List.flatten_cons, List.flatten_nil, List.append_nil, List.cons_append, List.nil_append]
  after_results_simp
  rw [Pipeline.withArrays_arr cfg0.spec arr_inj c _ _ 4, arr_4]
  rfl

theorem V_v0 (c : Dev nD) : V m c main_call0_v0
    = (shapeCast S1x1408 (m ((c : Thread nD τ).loc main_arg0) : Vec F S1408 .f32) shapeCasts_S1408_S1x1408 : Vec F S1x1408 .f32) := by
  show StableHlo.after (List.flatten [hostOps0]) (fun b => m (c, b)) _ = _
  simp only [hostOps0, List.flatten_cons, List.flatten_nil, List.append_nil, List.cons_append, List.nil_append]
  after_results_simp
  rfl

theorem V_v1 (c : Dev nD) : V m c main_call0_v1
    = (shapeCast S1x1408 (m ((c : Thread nD τ).loc main_arg1) : Vec F S1408 .f32) shapeCasts_S1408_S1x1408 : Vec F S1x1408 .f32) := by
  show StableHlo.after (List.flatten [hostOps0]) (fun b => m (c, b)) _ = _
  simp only [hostOps0, List.flatten_cons, List.flatten_nil, List.append_nil, List.cons_append, List.nil_append]
  after_results_simp
  rfl

/-- Every window's block index at the points. -/
theorem idx_0 : ∀ t : Fin cfg0.N, win0_0.index t = ![0, 0] := (by decide +kernel : ∀ t : Fin grid0.N, _)
theorem idx_1 : ∀ t : Fin cfg0.N, win0_1.index t = ![0, 0] := (by decide +kernel : ∀ t : Fin grid0.N, _)
theorem idx_2 : ∀ t : Fin cfg0.N, win0_2.index t = ![t.val, 0] := (by decide +kernel : ∀ t : Fin grid0.N, _)

theorem blkA_apply (c : Dev nD) (t : Fin cfg0.N) (k : Fin 1408) :
    blkA m c t (ix2 0 k) = (m ((c : Thread nD τ).loc main_arg0) : Vec F S1408 .f32) (ix1 k) := by
  show V m c main_call0_v0 ((win0_0.blk t).view.emb (ix2 0 k)) = _
  rw [V_v0]
  pointwise
  blk_ext [idx_0 t]

theorem blkB_apply (c : Dev nD) (t : Fin cfg0.N) (k : Fin 1408) :
    blkB m c t (ix2 0 k) = (m ((c : Thread nD τ).loc main_arg1) : Vec F S1408 .f32) (ix1 k) := by
  show V m c main_call0_v1 ((win0_1.blk t).view.emb (ix2 0 k)) = _
  rw [V_v1]
  pointwise
  blk_ext [idx_1 t]

theorem blkV_apply (c : Dev nD) (t : Fin cfg0.N) (r : Fin 2000) (k : Fin 1408) (p : Fin 50000) (hp : p.val = t.val * 2000 + r.val) :
    blkV m c t (ix2 r k) = (m ((c : Thread nD τ).loc main_arg2) : Vec F S50000x1408 .f32) (ix2 p k) := by
  unfold blkV
  blk_ext! [iblk, V, idx_2 t, hp]

end Cert.KernelIdeal.Output

end
-- ==== Proof.Spec.lean ====
/- The problem's mathematics on plain vectors of extended reals: norms, the angle, the spherical mix and the scores, with
   the facts about them that the kernel's and the reference's forms need. -/
module

public import Idealize.ShloMosaic.PureOps.Ideal
public import Idealize.ShloMosaic.PureOps.Ideal.Laws
public import Idealize.ShloMosaic.Lib.IdealHost

@[expose] public section

noncomputable section

namespace Cert.Spec

open Idealize.ShloMosaic

variable {n : ℕ}

/-- The length of a vector, and the vector over it. -/
def norm (a : Fin n → EReal) : EReal := Ideal.sqrt (∑ k, a k * a k)
def unit (a : Fin n → EReal) (k : Fin n) : EReal := Ideal.div (a k) (norm a)

/-- The cosine of the angle between two vectors, kept in [-1, 1]. -/
def cosine (a b : Fin n → EReal) : EReal := min 1 (max (-1) (∑ k, unit a k * unit b k))

/-- The arccosine's coefficients. -/
def coef (w : BitVec 32) : EReal := Ideal.ofBits .f32 w

/-- The arccosine's polynomial, as a sum of powers. -/
def series (y : EReal) : EReal :=
  coef 0x3FC90FDA#32 + coef 0xBE5BBFCA#32 * y + coef 0x3DB63A9E#32 * (y * y) + coef 0xBD4D8392#32 * (y * y * y)
    + coef 0x3CFD10F8#32 * (y * y * (y * y)) + coef 0xBC8BFC66#32 * (y * (y * y * (y * y)))
    + coef 0x3BDA90C5#32 * (y * y * (y * y * (y * y))) + coef 0xBAA57A2C#32 * (y * (y * y) * (y * y * (y * y)))

/-- The same polynomial, nested. -/
def nested (y : EReal) : EReal :=
  ((((((coef 0xBAA57A2C#32 * y + coef 0x3BDA90C5#32) * y + coef 0xBC8BFC66#32) * y + coef 0x3CFD10F8#32) * y
    + coef 0xBD4D8392#32) * y + coef 0x3DB63A9E#32) * y + coef 0xBE5BBFCA#32) * y + coef 0x3FC90FDA#32

/-- The arccosine of `x`, for `y = |x|` and the polynomial's value `p` there. -/
def arc (x y p : EReal) : EReal := if x < 0 then coef 0x40490FDB#32 - Ideal.sqrt (1 - y) * p else Ideal.sqrt (1 - y) * p

/-- The mix of two vectors at angle `θ`. -/
def mix (a b : Fin n → EReal) (θ : EReal) (k : Fin n) : EReal :=
  if Ideal.sin θ = 0 then a k
  else Ideal.div (Ideal.sin (coef 0x3E4CCCCD#32 * θ)) (if Ideal.sin θ = 0 then 1 else Ideal.sin θ) * a k
    + Ideal.div (Ideal.sin (coef 0x3F4CCCCD#32 * θ)) (if Ideal.sin θ = 0 then 1 else Ideal.sin θ) * b k

/-- The query. -/
def angle (a b : Fin n → EReal) : EReal :=
  arc (cosine a b) (max (cosine a b) (-cosine a b)) (series (max (cosine a b) (-cosine a b)))
def mixed (a b : Fin n → EReal) : Fin n → EReal := mix a b (angle a b)

/-- The score of a vector against the query. -/
def score (v q : Fin n → EReal) : EReal := ∑ k, unit v k * unit q k

/-! ## The polynomial -/

theorem exists_real (x : EReal) (h1 : x ≠ ⊥) (h2 : x ≠ ⊤) : ∃ r : ℝ, x = r := ⟨x.toReal, (EReal.coe_toReal h2 h1).symm⟩

/-- A word whose exponent is not the greatest is a real number. -/
theorem coef_real (w : BitVec 32) (h : (w.extractLsb' 23 8).toNat ≠ 255) : ∃ r : ℝ, coef w = r := by
  unfold coef Ideal.ofBits Ideal.ieee
  simp only
  rw [if_neg (by simpa using h)]
  by_cases e : (w.extractLsb' 23 8).toNat = 0
  · rw [if_pos e]; exact ⟨_, rfl⟩
  · rw [if_neg e]; exact ⟨_, rfl⟩

theorem neg_one : coef 0xBF800000#32 = -1 := by
  unfold coef
  exact IdealRules.sign_bit.ideal_negOnePat .f32

theorem nested_eq (y : EReal) (hy : ∃ r : ℝ, y = r) : nested y = series y := by
  obtain ⟨y, rfl⟩ := hy
  obtain ⟨c0, h0⟩ := coef_real 0x3FC90FDA#32 (by decide)
  obtain ⟨c1, h1⟩ := coef_real 0xBE5BBFCA#32 (by decide)
  obtain ⟨c2, h2⟩ := coef_real 0x3DB63A9E#32 (by decide)
  obtain ⟨c3, h3⟩ := coef_real 0xBD4D8392#32 (by decide)
  obtain ⟨c4, h4⟩ := coef_real 0x3CFD10F8#32 (by decide)
  obtain ⟨c5, h5⟩ := coef_real 0xBC8BFC66#32 (by decide)
  obtain ⟨c6, h6⟩ := coef_real 0x3BDA90C5#32 (by decide)
  obtain ⟨c7, h7⟩ := coef_real 0xBAA57A2C#32 (by decide)
  unfold nested series
  rw [h0, h1, h2, h3, h4, h5, h6, h7]
  simp only [← EReal.coe_mul, ← EReal.coe_add]
  congr 1
  ring

/-! ## The cosine lies in [-1, 1] -/

theorem neg_one_le_one : (-1 : EReal) ≤ 1 := by
  show ((-1 : ℝ) : EReal) ≤ ((1 : ℝ) : EReal)
  exact EReal.coe_le_coe_iff.mpr (by norm_num)

theorem cosine_le (a b : Fin n → EReal) : cosine a b ≤ 1 := min_le_left _ _
theorem neg_one_le_cosine (a b : Fin n → EReal) : -1 ≤ cosine a b :=
  le_min neg_one_le_one (le_max_left _ _)

theorem abs_le (x : EReal) (h1 : -1 ≤ x) (h2 : x ≤ 1) : max x (-x) ≤ 1 :=
  max_le h2 (EReal.neg_le.mpr h1)

theorem abs_real (x : EReal) (h1 : -1 ≤ x) (h2 : x ≤ 1) : ∃ r : ℝ, max x (-x) = r := by
  obtain ⟨r, rfl⟩ := exists_real x (fun e => by subst e; exact absurd h1 (not_le.mpr (EReal.bot_lt_coe (-1)))) (fun e => by subst e; exact absurd h2 (not_le.mpr (EReal.coe_lt_top 1)))
  exact ⟨max r (-r), by rw [← EReal.coe_neg]; exact (EReal.coe_strictMono.monotone.map_max).symm⟩

theorem one_sub_nonneg (x : EReal) (h1 : -1 ≤ x) (h2 : x ≤ 1) : max (1 - max x (-x)) 0 = 1 - max x (-x) := by
  obtain ⟨r, hr⟩ := abs_real x h1 h2
  have h := abs_le x h1 h2
  rw [hr] at h ⊢
  have h' : r ≤ 1 := by exact_mod_cast h
  refine max_eq_left ?_
  rw [show (1 : EReal) - (r : EReal) = ((1 - r : ℝ) : EReal) by rw [EReal.coe_sub]; rfl]
  exact_mod_cast (by linarith : (0 : ℝ) ≤ 1 - r)

/-! ## Dividing by a positive length -/

theorem mul_div_one (x s : EReal) (h : s ≠ 0) : x * Ideal.div 1 s = Ideal.div x s := by
  unfold Ideal.div
  rw [if_neg h, if_neg h, one_mul]

theorem square_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

theorem square_le (a : Fin n → EReal) (k : Fin n) : a k * a k ≤ ∑ j, a j * a j :=
  Finset.single_le_sum (f := fun j => a j * a j) (fun j _ => square_nonneg (a j)) (Finset.mem_univ k)

theorem unit_real (a : Fin n → EReal) (h : 0 < norm a) (k : Fin n) : ∃ r : ℝ, unit a k = r := by
  unfold unit Ideal.div
  rw [if_neg (ne_of_gt h)]
  by_cases ht : norm a = ⊤
  · rw [ht, EReal.inv_top, mul_zero]; exact ⟨0, rfl⟩
  obtain ⟨s, hs⟩ := exists_real (norm a) (fun e => absurd (e ▸ h) not_lt_bot) ht
  have hsum : (∑ j, a j * a j) ≠ ⊤ := fun e => ht (by unfold norm; rw [e]; rfl)
  have hk : a k * a k ≠ ⊤ := fun e => hsum (top_le_iff.mp (e ▸ square_le a k))
  obtain ⟨r, hr⟩ := exists_real (a k) (fun e => hk (by rw [e, EReal.bot_mul_bot])) (fun e => hk (by rw [e, EReal.top_mul_top]))
  exact ⟨r * s⁻¹, by rw [hr, hs, EReal.coe_mul, EReal.coe_inv]⟩

theorem score_bot (v q : Fin n → EReal) (hv : 0 < norm v) (hq : 0 < norm q) : ⊥ < score v q := by
  choose f hf using unit_real v hv
  choose g hg using unit_real q hq
  unfold score
  simp only [hf, hg, ← EReal.coe_mul]
  exact Finset.sum_induction _ (fun x : EReal => ⊥ < x) (fun _ _ hx hy => EReal.bot_lt_add_iff.mpr ⟨hx, hy⟩) EReal.bot_lt_zero
    fun _ _ => EReal.bot_lt_coe _

end Cert.Spec

end
-- ==== Proof.Form.lean ====
/- The kernel's payloads at the extended reals are the mathematics of `Spec`. -/
module

public import proofs.«01_k».proof.Proof.Output
public import proofs.«01_k».proof.Proof.Spec
public import Idealize.ShloMosaic.Lib.Pointwise

@[expose] public section

set_option maxRecDepth 16384

noncomputable section

namespace Cert.KernelIdeal.Form

open Idealize.ShloMosaic Idealize.SL.Sem
open Cert.KernelIdeal.Gen Cert.KernelIdeal.Rounds Cert.KernelIdeal.Body Cert.Spec

/-- A one-row matrix as a vector. -/
def row (x : FVec Ideal S1x1408 .f32) (k : Fin 1408) : EReal := x (ix2 0 k)

theorem cosine_eq (a b : FVec Ideal S1x1408 .f32) : k0_pay7 (F := Ideal) a b = cosine (row a) (row b) := by
  unfold cosine unit Spec.norm row
  rw [← neg_one]
  unfold coef
  pointwise [k0_pay7, k0_pay5, k0_pay6]
  simp only [Finset.univ_unique, Finset.sum_singleton]
  rfl

theorem abs_eq (a b : FVec Ideal S1x1408 .f32) :
    k0_pay8 (F := Ideal) a b = max (cosine (row a) (row b)) (-cosine (row a) (row b)) := by
  unfold k0_pay8
  rw [cosine_eq]
  rfl

theorem nested_eq (a b : FVec Ideal S1x1408 .f32) : k0_pay9 (F := Ideal) a b = nested (k0_pay8 (F := Ideal) a b) := by
  unfold k0_pay9 nested coef
  rfl

/-- The kernel's angle, from the cosine, its absolute value and the polynomial's value. -/
def arcK (x y p : EReal) : EReal :=
  if 0 ≤ x then Ideal.sqrt (max (1 - y) 0) * p else coef 0x40490FDB#32 - Ideal.sqrt (max (1 - y) 0) * p

theorem arcK_eq (x p : EReal) (h1 : -1 ≤ x) (h2 : x ≤ 1) : arcK x (max x (-x)) p = arc x (max x (-x)) p := by
  unfold arcK arc
  rw [one_sub_nonneg x h1 h2]
  by_cases h : 0 ≤ x
  · rw [if_pos h, if_neg (not_lt.mpr h)]
  · rw [if_neg h, if_pos (not_le.mp h)]

/-- A row over its length, eight times. -/
def units (w : FVec Ideal S1x1408 .f32) : FVec Ideal S8x1408 .f32 :=
  shapeCast S8x1408 (broadcastTo S8x1408 (shapeCast S1x1408 (divf w (broadcast S1x1408 (Scalar.sqrt (extractAt ![0, 0, 0]
    (shapeCast S1x1x1 (multiReduction .add [1, 2] S1 (shapeCast S1x1x1408 (mulf w w) shapeCasts_S1x1408_S1x1x1408) 0x00000000#32
      reduces_S1x1x1408_S1 (.inl rfl) rfl) shapeCasts_S1_S1x1x1) inpos_S1x1x1_p0_0_0))))
    shapeCasts_S1x1408_S1x1408) broadcasts_S1x1408_S8x1408) shapeCasts_S8x1408_S8x1408

theorem units_apply (w : FVec Ideal S1x1408 .f32) (r : Fin 8) (k : Fin 1408) : units w (ix2 r k) = unit (row w) k := by
  unfold unit Spec.norm row
  pointwise [units]
  simp only [Finset.univ_unique, Finset.sum_singleton]
  rfl

/-- The kernel's mix at angle `θ`. -/
def mixK (a b : FVec Ideal S1x1408 .f32) (θ : EReal) : FVec Ideal S1x1408 .f32 :=
  Scalar.select (Scalar.cmpf (F := Ideal) (φ := .f32) .oeq (Ideal.sin θ) (Scalar.ofBits (F := Ideal) .f32 0x00000000#32)) a
    (addf (mulf (broadcast S1x1408 (Scalar.divf (F := Ideal) (φ := .f32) (Ideal.sin (coef 0x3E4CCCCD#32 * θ))
        (Scalar.select (Scalar.cmpf (F := Ideal) (φ := .f32) .oeq (Ideal.sin θ) (Scalar.ofBits (F := Ideal) .f32 0x00000000#32))
          (Scalar.ofBits (F := Ideal) .f32 0x3F800000#32) (Ideal.sin θ)))) a)
      (mulf (broadcast S1x1408 (Scalar.divf (F := Ideal) (φ := .f32) (Ideal.sin (coef 0x3F4CCCCD#32 * θ))
        (Scalar.select (Scalar.cmpf (F := Ideal) (φ := .f32) .oeq (Ideal.sin θ) (Scalar.ofBits (F := Ideal) .f32 0x00000000#32))
          (Scalar.ofBits (F := Ideal) .f32 0x3F800000#32) (Ideal.sin θ)))) b))

theorem oeq_zero (s : EReal) :
    Scalar.cmpf (F := Ideal) (φ := .f32) .oeq s (Scalar.ofBits (F := Ideal) .f32 0x00000000#32) = BitVec.ofBool (decide (s = 0)) := by
  show BitVec.ofBool (decide (s = Ideal.ofBits .f32 0x00000000#32)) = _
  rw [Ideal.ofBits_zero_f32]

theorem mixK_row (a b : FVec Ideal S1x1408 .f32) (θ : EReal) : row (mixK a b θ) = mix (row a) (row b) θ := by
  funext k
  unfold row mixK mix
  rw [oeq_zero, Scalar.select_ofBool, Scalar.select_ofBool]
  by_cases h : Ideal.sin θ = 0
  · simp only [h, decide_true, if_true]
  · simp only [h, decide_false, if_false]
    rfl

theorem pay1_eq (a b : FVec Ideal S1x1408 .f32) (x y p : EReal) :
    k0_pay1 (F := Ideal) a b x y p (Scalar.ofBits (F := Ideal) .f32 0x3F800000#32) = units (mixK a b (arcK x y p)) := by
  have h : Scalar.select (Scalar.cmpf (F := Ideal) (φ := .f32) .oge x (Scalar.ofBits (F := Ideal) .f32 0x00000000#32))
      (Ideal.sqrt (max (Ideal.ofBits .f32 0x3F800000#32 - y) (Ideal.ofBits .f32 0x00000000#32)) * p : EReal)
      (coef 0x40490FDB#32 - Ideal.sqrt (max (Ideal.ofBits .f32 0x3F800000#32 - y) (Ideal.ofBits .f32 0x00000000#32)) * p)
        = arcK x y p := by
    show Scalar.select (BitVec.ofBool (decide (Ideal.ofBits .f32 0x00000000#32 ≤ x))) _ _ = _
    rw [Scalar.select_ofBool, Ideal.ofBits_zero_f32, Ideal.ofBits_one_f32]
    unfold arcK
    simp only [decide_eq_true_eq]
  rw [← h]
  rfl

theorem pay5_eq (a : FVec Ideal S1x1408 .f32) : row (k0_pay5 (F := Ideal) a) = row a := by
  funext k
  unfold row
  pointwise [k0_pay5]

theorem pay6_eq (a : FVec Ideal S1x1408 .f32) : row (k0_pay6 (F := Ideal) a) = row a := by
  funext k
  unfold row
  pointwise [k0_pay6]

/-- Every row of the query the kernel makes is the mix over its length. -/
theorem query_apply (a b : FVec Ideal S1x1408 .f32) (r : Fin 8) (k : Fin 1408) :
    query (F := Ideal) a b (ix2 r k) = unit (mixed (row a) (row b)) k := by
  unfold query
  rw [pay1_eq, units_apply, mixK_row, pay5_eq, pay6_eq, nested_eq, abs_eq, cosine_eq,
    arcK_eq _ _ (neg_one_le_cosine _ _) (cosine_le _ _),
    Spec.nested_eq _ (abs_real _ (neg_one_le_cosine _ _) (cosine_le _ _))]
  rfl

theorem pay2_apply (v : FVec Ideal S2000x1408 .f32) (q : FVec Ideal S8x1408 .f32) (c : Fin 2000) (w u : Fin 1408 → EReal)
    (hw : ∀ k, v (ix2 c k) = w k) (hq : ∀ k, q (ix2 0 k) = unit u k) (hn : Spec.norm w ≠ 0) :
    k0_pay2 (F := Ideal) v q (ix2 0 c) = score w u := by
  have e : k0_pay2 (F := Ideal) v q (ix2 0 c)
      = ∑ x, q (ix2 0 x) * (v (ix2 c x) * Ideal.div 1 (Ideal.sqrt (∑ x, v (ix2 c x) * v (ix2 c x)))) := by
    pointwise [k0_pay2]
  rw [e]
  simp only [hw, hq]
  unfold score
  refine Finset.sum_congr rfl fun k _ => ?_
  show unit u k * (w k * Ideal.div 1 (Spec.norm w)) = unit w k * unit u k
  rw [mul_div_one _ _ hn, mul_comm]
  rfl

end Cert.KernelIdeal.Form

end
-- ==== Proof.RefForm.lean ====
/- The reference's terms at the extended reals are the mathematics of `Spec`. -/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Form

open Idealize.ShloMosaic Idealize.SL.Sem
open Cert.ReferenceIdeal Cert.ReferenceIdeal.Gen Cert.ReferenceIdeal.Value Cert.Spec

variable (V0 : Valuation τ sig (Elt Ideal))

/-- The arguments as vectors. -/
def va (k : Fin 1408) : EReal := (V0 (Proc.devRef .tc main_arg0) : FVec Ideal S1408 .f32) (ix1 k)
def vb (k : Fin 1408) : EReal := (V0 (Proc.devRef .tc main_arg1) : FVec Ideal S1408 .f32) (ix1 k)
def vv (p : Fin 50000) (k : Fin 1408) : EReal := (V0 (Proc.devRef .tc main_arg2) : FVec Ideal S50000x1408 .f32) (ix2 p k)

theorem one_apply (i : S_.Idx) : id (constant (F := Ideal) S_ .f32 0x3F800000#32) i = (1 : EReal) := Ideal.ofBits_one_f32
theorem neg_one_apply (i : S_.Idx) : id (constant (F := Ideal) S_ .f32 0xBF800000#32) i = (-1 : EReal) := neg_one

theorem cosine_eq (i : S_.Idx) : (res_main_v8 (F := Ideal) V0 : FVec Ideal S_ .f32) i = cosine (va V0) (vb V0) := by
  unfold cosine unit Spec.norm va vb
  rw [← neg_one_apply i, ← one_apply i]
  pointwise [res_main_v8]

theorem angle_eq (i : S_.Idx) : (res_main_v44 (F := Ideal) V0 : FVec Ideal S_ .f32) i = angle (va V0) (vb V0) := by
  have h9 : (res_main_v9 (F := Ideal) V0 : FVec Ideal S_ .f32) i
      = max (cosine (va V0) (vb V0)) (-cosine (va V0) (vb V0)) := by
    rw [← cosine_eq V0 i]
    rfl
  unfold angle arc series
  rw [← h9, ← cosine_eq V0 i]
  unfold coef
  pointwise [res_main_v44, res_main_v41, res_main_v19, res_main_v23, res_main_v28, res_main_v33]

theorem mixed_eq (k : Fin 1408) : (res_main_v62 (F := Ideal) V0 : FVec Ideal S1408 .f32) (ix1 k) = mixed (va V0) (vb V0) k := by
  unfold mixed mix
  rw [← angle_eq V0 ix0, ← one_apply ix0]
  unfold coef va vb
  pointwise [res_main_v62, res_main_v45]

theorem score_eq (p : Fin 50000) :
    (res_main_v69 (F := Ideal) V0 : FVec Ideal S50000 .f32) (ix1 p) = score (vv V0 p) (mixed (va V0) (vb V0)) := by
  unfold score unit Spec.norm
  simp only [← mixed_eq]
  unfold vv
  pointwise [res_main_v69]

end Cert.ReferenceIdeal.Form

end
-- ==== Proof.Select.lean ====
/- The selection of the ten greatest, without a program: repeatedly the greatest entry, the least position that holds it, and
   that position struck out. It yields the first places of the stable descending sort. -/
module

public import Idealize.ShloMosaic.Lib.SortPrefix
public import Mathlib.Data.EReal.Basic

@[expose] public section

noncomputable section

namespace Cert.Select

open Idealize.ShloMosaic

variable {n : ℕ}

/-- `p` is the least position of a greatest entry of `f`. -/
def First (f : Fin n → EReal) (p : Fin n) : Prop := (∀ q, f q ≤ f p) ∧ ∀ q, f q = f p → p ≤ q

/-- The entries `f` with position `p` struck out. -/
def strike (f : Fin n → EReal) (p : Fin n) : Fin n → EReal := fun q => if q = p then ⊥ else f q

/-- The entries that are left after `i` of the selections `σ`. -/
def left (f : Fin n → EReal) (σ : ℕ → Fin n) : ℕ → Fin n → EReal
  | 0 => f
  | i + 1 => strike (left f σ i) (σ i)

theorem left_of_mem (f : Fin n → EReal) (σ : ℕ → Fin n) (i j : ℕ) (h : j < i) : left f σ i (σ j) = ⊥ := by
  induction i with
  | zero => exact absurd h (Nat.not_lt_zero j)
  | succ i ih =>
    show (if σ j = σ i then ⊥ else left f σ i (σ j)) = ⊥
    by_cases e : σ j = σ i
    · rw [if_pos e]
    · rw [if_neg e]
      exact ih (lt_of_le_of_ne (Nat.le_of_lt_succ h) fun q => e (q ▸ rfl))

theorem left_of_notMem (f : Fin n → EReal) (σ : ℕ → Fin n) (i : ℕ) (q : Fin n) (h : ∀ j < i, σ j ≠ q) :
    left f σ i q = f q := by
  induction i with
  | zero => rfl
  | succ i ih =>
    show (if q = σ i then ⊥ else left f σ i q) = f q
    rw [if_neg fun e => h i (Nat.lt_succ_self i) e.symm]
    exact ih fun j hj => h j (Nat.lt_succ_of_lt hj)

/-- Fewer than `n` positions leave one out. -/
theorem exists_notMem (σ : ℕ → Fin n) (i : ℕ) (h : i < n) : ∃ q : Fin n, ∀ j < i, σ j ≠ q := by
  by_contra hc
  push Not at hc
  have hs : (Finset.univ : Finset (Fin n)) ⊆ (Finset.range i).image σ := fun q _ => by
    obtain ⟨j, hj, e⟩ := hc q
    exact Finset.mem_image.mpr ⟨j, Finset.mem_range.mpr hj, e⟩
  have := (Finset.card_le_card hs).trans Finset.card_image_le
  rw [Finset.card_univ, Fintype.card_fin, Finset.card_range] at this
  omega

section selection

variable (f : Fin n → EReal) (σ : ℕ → Fin n) (k : ℕ) (hk : k ≤ n) (hf : ∀ q, ⊥ < f q)
  (hσ : ∀ i < k, First (left f σ i) (σ i))
include hk hf hσ

/-- A selection is of no earlier position. -/
theorem fresh (i : ℕ) (hi : i < k) (j : ℕ) (hj : j < i) : σ j ≠ σ i := fun e => by
  obtain ⟨q, hq⟩ := exists_notMem σ i (lt_of_lt_of_le hi hk)
  have h := (hσ i hi).1 q
  rw [left_of_notMem f σ i q hq, ← e, left_of_mem f σ i j hj] at h
  exact absurd (hf q) (not_lt.mpr h)

/-- So at its round the selected entry is as it was. -/
theorem left_self (i : ℕ) (hi : i < k) : left f σ i (σ i) = f (σ i) :=
  left_of_notMem f σ i (σ i) fun j hj => fresh f σ k hk hf hσ i hi j hj

/-- "Greater first, then the lesser position". -/
def before (f : Fin n → EReal) (a b : Fin n) : Bool :=
  decide (f b < f a) || (decide (f a = f b) && decide (a < b))

omit hk hf hσ in
theorem before_total : StrictTotalBefore (before f) :=
  StrictTotalBefore.of_key_then_position (fun a b : EReal => decide (b < a)) f (fun a => by simp)
    (fun a b c hab hbc => by
      simp only [decide_eq_true_eq] at hab hbc ⊢
      exact lt_trans hbc hab)
    (fun a b => by
      simp only [decide_eq_true_eq]
      rcases lt_trichotomy a b with h | h | h
      · exact Or.inr (Or.inr h)
      · exact Or.inr (Or.inl h)
      · exact Or.inl h)

/-- No position other than the earlier selections is before a selected one. -/
theorem not_before (i : ℕ) (hi : i < k) (q : Fin n) (hq : ∀ j < i, σ j ≠ q) : before f q (σ i) = false := by
  have h1 := (hσ i hi).1 q
  have h2 := (hσ i hi).2 q
  rw [left_of_notMem f σ i q hq, left_self f σ k hk hf hσ i hi] at h1 h2
  unfold before
  rw [Bool.or_eq_false_iff, Bool.and_eq_false_iff]
  refine ⟨decide_eq_false (not_lt.mpr h1), ?_⟩
  by_cases e : f q = f (σ i)
  · exact Or.inr (decide_eq_false (not_lt.mpr (h2 e)))
  · exact Or.inl (decide_eq_false e)

/-- The selections are the first places of the sort "greater first, then the lesser position". -/
theorem sortedFrom_eq (i : Fin k) : sortedFrom (before f) (i.castLE hk) = σ i.val := by
  have hfr := fresh f σ k hk hf hσ
  refine (before_total f).sortedFrom_eq_of_prefix hk (fun j : Fin k => σ j.val) ?_ ?_ ?_ i
  · intro a b e
    rcases lt_trichotomy a.val b.val with h | h | h
    · exact absurd e (hfr b.val b.isLt a.val h)
    · exact Fin.ext h
    · exact absurd e.symm (hfr a.val a.isLt b.val h)
  · intro a b hab
    exact not_before f σ k hk hf hσ a.val a.isLt _ fun j hj => hfr b.val b.isLt j (lt_trans hj hab)
  · intro a q hq
    exact not_before f σ k hk hf hσ a.val a.isLt q fun j hj => hq ⟨j, lt_trans hj a.isLt⟩

end selection

/-- Inserting a position that precedes every other: only the comparison of entries matters. -/
theorem insertBefore_eq (f : Fin n → EReal) (a : Fin n) (l : List (Fin n)) (h : ∀ b ∈ l, a < b) :
    insertBefore (fun x y => decide (f y < f x)) a l = insertBefore (before f) a l :=
  insertBefore_congr _ _ a l fun b hb => by
    unfold before
    rw [decide_eq_false (not_lt.mpr (le_of_lt (h b hb)) : ¬ b < a), Bool.and_false, Bool.or_false]

/-- The stable sort by the entries alone is the sort "greater first, then the lesser position". -/
theorem stableSort_eq (f : Fin n → EReal) (l : List (Fin n)) (h : l.Pairwise (· < ·)) :
    stableSort (fun x y => decide (f y < f x)) l = stableSort (before f) l := by
  induction l with
  | nil => rfl
  | cons a l ih =>
    obtain ⟨ha, hl⟩ := List.pairwise_cons.mp h
    unfold stableSort
    rw [ih hl]
    exact insertBefore_eq f a _ fun b hb => ha b ((perm_stableSort _ l).mem_iff.mp hb)

theorem sortPositions_entries (f : Fin n → EReal) :
    sortPositions n (fun x y => decide (f y < f x)) = sortPositions n (before f) :=
  stableSort_eq f (List.finRange n) (List.pairwise_lt_finRange n)

theorem sortedFrom_entries (f : Fin n → EReal) :
    sortedFrom (fun x y : Fin n => decide (f y < f x)) = sortedFrom (before f) := by
  funext i
  unfold sortedFrom
  rw [List.get_of_eq (sortPositions_entries f)]
  rfl

end Cert.Select

end
-- ==== Proof.Picks.lean ====
/- The kernel's ten rounds at the extended reals: each takes the least flat position of a greatest entry that is left. -/
module

public import proofs.«01_k».proof.Proof.Rounds
public import proofs.«01_k».proof.Proof.Select
public import Idealize.ShloMosaic.Lib.Pointwise
public import Idealize.ShloMosaic.Lib.SortNet.Extract

@[expose] public section

set_option maxRecDepth 16384

noncomputable section

namespace Cert.KernelIdeal.Picks

open Idealize.ShloMosaic Idealize.SL.Sem Cert.KernelIdeal.Gen Cert.KernelIdeal.Rounds

/-- The index of flat position `p`. -/
def unflat (p : Fin 50000) : S25x2000.Idx :=
  ix2 (⟨p.val / 2000, by have := p.isLt; omega⟩ : Fin 25) (⟨p.val % 2000, Nat.mod_lt _ (by decide)⟩ : Fin 2000)

/-- The flat position of row `r`, column `c`. -/
def flat (r : Fin 25) (c : Fin 2000) : Fin 50000 := ⟨r.val * 2000 + c.val, by have := r.isLt; have := c.isLt; omega⟩

theorem unflat_flat (r : Fin 25) (c : Fin 2000) : unflat (flat r c) = ix2 r c := by
  have h1 : (r.val * 2000 + c.val) / 2000 = r.val := by have := c.isLt; omega
  have h2 : (r.val * 2000 + c.val) % 2000 = c.val := by have := c.isLt; omega
  unfold unflat flat
  congr 1
  · exact Fin.ext h1
  · exact Fin.ext h2

/-- The matrix as a vector. -/
def entries (x : FVec Ideal S25x2000 .f32) : Fin 50000 → EReal := fun p => x (unflat p)

theorem word_flat (r : Fin 25) (c : Fin 2000) : k0_pay10 (ix2 r c) = BitVec.ofNat 32 (flat r c).val := by
  have e : k0_pay10 (ix2 r c) = IntOp.addi (IntOp.muli (BitVec.ofNat 32 r.val) 2000#32) (BitVec.ofNat 32 c.val) := by
    pointwise [k0_pay10]
  rw [e]
  unfold IntOp.addi IntOp.muli flat
  apply BitVec.eq_of_toNat_eq
  simp [BitVec.toNat_add, BitVec.toNat_mul, BitVec.toNat_ofNat]

theorem word_unflat (p : Fin 50000) : k0_pay10 (unflat p) = BitVec.ofNat 32 p.val := by
  have h : flat ⟨p.val / 2000, by have := p.isLt; omega⟩ ⟨p.val % 2000, Nat.mod_lt _ (by decide)⟩ = p :=
    Fin.ext (by show p.val / 2000 * 2000 + p.val % 2000 = p.val; omega)
  unfold unflat
  rw [word_flat, h]

theorem toInt_word (p : ℕ) (h : p < 50000) : (BitVec.ofNat 32 p).toInt = p := by
  rw [BitVec.toInt_eq_toNat_cond, BitVec.toNat_ofNat]
  have : p % 2 ^ 32 = p := Nat.mod_eq_of_lt (by omega)
  rw [this, if_pos (by omega)]

theorem word_inj (p q : Fin 50000) (h : BitVec.ofNat 32 p.val = BitVec.ofNat 32 q.val) : p = q := by
  have := congrArg BitVec.toInt h
  rw [toInt_word _ p.isLt, toInt_word _ q.isLt] at this
  exact Fin.ext (by exact_mod_cast this)

theorem ofBits_bot : Ideal.ofBits .f32 0xFF800000#32 = (⊥ : EReal) := by
  simp [Ideal.ofBits, Ideal.ieee]

theorem top_eq (x : FVec Ideal S25x2000 .f32) :
    top x = (Finset.univ : Finset (Fin 25 × Fin 2000)).fold max (⊥ : EReal) (fun k => x (ix2 k.1 k.2)) := by
  rw [← ofBits_bot]
  pointwise [top]

theorem place_eq (x : FVec Ideal S25x2000 .f32) (v : EReal) :
    place x v = (Finset.univ : Finset (Fin 25 × Fin 2000)).fold IntOp.minsi 2147483647#32
      (fun k => if x (ix2 k.1 k.2) = v then k0_pay10 (ix2 k.1 k.2) else 2147483647#32) := by
  pointwise [place]

/-- A choice by the equality of two words. -/
theorem select_cmp {α : Type} (x y : BitVec 32) (a b : α) :
    Scalar.select (IntOp.cmpi .eq x y) a b = if x = y then a else b := by
  by_cases h : x = y
  · rw [if_pos h, Scalar.select_of_eq_one (IntOp.cmpi_eq.mpr h)]
  · rw [if_neg h, Scalar.select_of_ne_one fun e => h (IntOp.cmpi_eq.mp e)]

theorem strike_eq (x : FVec Ideal S25x2000 .f32) (p : BitVec 32) (i : S25x2000.Idx) :
    Rounds.strike x p i = if k0_pay10 i = p then (⊥ : EReal) else x i := by
  show Scalar.select (IntOp.cmpi .eq (k0_pay10 i) p) (Ideal.ofBits .f32 0xFF800000#32) (x i) = _
  rw [ofBits_bot, select_cmp]

/-- A fold of signed minima is at most its start and every word, and is one of them. -/
theorem fold_minsi {ι : Type} [DecidableEq ι] (g : ι → BitVec 32) (s : Finset ι) (b : BitVec 32) :
    (∀ i ∈ s, (s.fold IntOp.minsi b g).toInt ≤ (g i).toInt)
      ∧ ((s.fold IntOp.minsi b g).toInt = b.toInt ∨ ∃ i ∈ s, (s.fold IntOp.minsi b g).toInt = (g i).toInt)
      ∧ (s.fold IntOp.minsi b g).toInt ≤ b.toInt := by
  induction s using Finset.induction_on with
  | empty => simp
  | insert a s ha ih =>
    obtain ⟨h1, h2, h3⟩ := ih
    rw [Finset.fold_insert ha, SortNet.toInt_minsi]
    refine ⟨fun i hi => ?_, ?_, (min_le_right _ _).trans h3⟩
    · rcases Finset.mem_insert.mp hi with rfl | hi
      · exact min_le_left _ _
      · exact (min_le_right _ _).trans (h1 i hi)
    · rcases min_choice (g a).toInt (s.fold IntOp.minsi b g).toInt with e | e
      · exact Or.inr ⟨a, Finset.mem_insert_self a s, e⟩
      · rw [e]
        rcases h2 with h2 | ⟨i, hi, h2⟩
        · exact Or.inl h2
        · exact Or.inr ⟨i, Finset.mem_insert_of_mem hi, h2⟩

/-- One round: there is a position that is the least of a greatest entry; the round's value is that entry, its index that
    position. -/
theorem round (x : FVec Ideal S25x2000 .f32) :
    ∃ p : Fin 50000, Select.First (entries x) p ∧ top x = entries x p ∧ place x (top x) = BitVec.ofNat 32 p.val := by
  have hu : ∀ q : Fin 50000, ∃ k : Fin 25 × Fin 2000, unflat q = ix2 k.1 k.2 := fun q => ⟨(_, _), rfl⟩
  -- the value
  have hle : ∀ q, entries x q ≤ top x := fun q => by
    obtain ⟨k, hk⟩ := hu q
    rw [top_eq]
    unfold entries
    rw [hk]
    exact (Finset.le_fold_max _).mpr (Or.inr ⟨k, Finset.mem_univ k, le_refl _⟩)
  have hmem : ∃ q, entries x q = top x := by
    by_contra hc
    push Not at hc
    have hb : top x ≠ ⊥ := fun e => hc ⟨0, by decide⟩ (le_antisymm (hle _) (e ▸ bot_le))
    have : top x < top x := by
      conv_lhs => rw [top_eq]
      refine (Finset.fold_max_lt _).mpr ⟨bot_lt_iff_ne_bot.mpr hb, fun k _ => lt_of_le_of_ne ?_ ?_⟩
      · have := hle (flat k.1 k.2)
        unfold entries at this
        rwa [unflat_flat] at this
      · have := hc (flat k.1 k.2)
        unfold entries at this
        rwa [unflat_flat] at this
    exact absurd this (lt_irrefl _)
  -- the place
  obtain ⟨h1, h2, -⟩ := fold_minsi (fun k : Fin 25 × Fin 2000 => if x (ix2 k.1 k.2) = top x then k0_pay10 (ix2 k.1 k.2)
    else 2147483647#32) Finset.univ 2147483647#32
  rw [← place_eq x (top x)] at h1 h2
  have hmax : (2147483647#32 : BitVec 32).toInt = 2147483647 := by decide
  have hat : ∀ q, entries x q = top x → (place x (top x)).toInt ≤ q.val := fun q hq => by
    obtain ⟨k, hk⟩ := hu q
    have := h1 k (Finset.mem_univ k)
    unfold entries at hq
    rw [← hk, if_pos hq, word_unflat, toInt_word _ q.isLt] at this
    exact this
  obtain ⟨q₀, hq₀⟩ := hmem
  have hsmall := hat q₀ hq₀
  have hcase : ∀ k : Fin 25 × Fin 2000, (place x (top x)).toInt = (if x (ix2 k.1 k.2) = top x then k0_pay10 (ix2 k.1 k.2)
    else 2147483647#32 : BitVec 32).toInt → ∃ p : Fin 50000, entries x p = top x ∧ (place x (top x)).toInt = p.val := fun k hk => by
    by_cases e : x (ix2 k.1 k.2) = top x
    · rw [if_pos e, word_flat, toInt_word _ (flat k.1 k.2).isLt] at hk
      exact ⟨flat k.1 k.2, by unfold entries; rw [unflat_flat]; exact e, hk⟩
    · rw [if_neg e, hmax] at hk
      have := q₀.isLt
      omega
  have hp : ∃ p : Fin 50000, entries x p = top x ∧ (place x (top x)).toInt = p.val := by
    rcases h2 with h2 | ⟨k, -, h2⟩
    · rw [hmax] at h2
      have := q₀.isLt
      omega
    · exact hcase k h2
  obtain ⟨p, hp1, hp2⟩ := hp
  refine ⟨p, ⟨fun q => hp1 ▸ hle q, fun q hq => ?_⟩, hp1.symm, ?_⟩
  · have := hat q (hq.trans hp1)
    rw [hp2] at this
    exact Fin.le_def.mpr (by exact_mod_cast this)
  · exact BitVec.eq_of_toInt_eq (hp2.trans (toInt_word _ p.isLt).symm)

/-- The position the `i`-th round selects. -/
def pick (x : FVec Ideal S25x2000 .f32) (i : ℕ) : Fin 50000 := Classical.choose (round (Rounds.left x i))

theorem pick_spec (x : FVec Ideal S25x2000 .f32) (i : ℕ) :
    Select.First (entries (Rounds.left x i)) (pick x i) ∧ top (Rounds.left x i) = entries (Rounds.left x i) (pick x i)
      ∧ place (Rounds.left x i) (top (Rounds.left x i)) = BitVec.ofNat 32 (pick x i).val :=
  Classical.choose_spec (round (Rounds.left x i))

/-- What is left after `i` rounds is the matrix with the selected positions struck out. -/
theorem entries_left (x : FVec Ideal S25x2000 .f32) (i : ℕ) :
    entries (Rounds.left x i) = Select.left (entries x) (pick x) i := by
  induction i with
  | zero => rfl
  | succ i ih =>
    funext q
    show Rounds.strike (Rounds.left x i) (place (Rounds.left x i) (top (Rounds.left x i))) (unflat q)
      = if q = pick x i then ⊥ else Select.left (entries x) (pick x) i q
    rw [strike_eq, (pick_spec x i).2.2, word_unflat, ← ih]
    by_cases h : q = pick x i
    · rw [if_pos h, if_pos (by rw [h])]
    · rw [if_neg h, if_neg fun e => h (word_inj _ _ e)]
      rfl

section selected

variable (x : FVec Ideal S25x2000 .f32) (hx : ∀ p, ⊥ < entries x p)
include hx

theorem picks_sorted (i : Fin 10) :
    sortedFrom (fun a b : Fin 50000 => decide (entries x b < entries x a)) (i.castLE (by decide)) = pick x i.val := by
  rw [Select.sortedFrom_entries]
  exact Select.sortedFrom_eq (entries x) (pick x) 10 (by decide) hx
    (fun j _ => entries_left x j ▸ (pick_spec x j).1) i

theorem top_left (i : Fin 10) : top (Rounds.left x i.val) = entries x (pick x i.val) := by
  rw [(pick_spec x i.val).2.1, entries_left]
  exact Select.left_self (entries x) (pick x) 10 (by decide) hx
    (fun j _ => entries_left x j ▸ (pick_spec x j).1) i.val i.isLt

end selected

/-! ## The two rows -/

theorem putF_eq (j : BitVec 32) (v : EReal) (f : FVec Ideal S1x128 .f32) (c : Fin 128) :
    putF (F := Ideal) j v f (ix2 0 c) = if BitVec.ofNat 32 c.val = j then v else f (ix2 0 c) := by
  have e : putF (F := Ideal) j v f (ix2 0 c) = Scalar.select (IntOp.cmpi .eq (BitVec.ofNat 32 c.val) j) v (f (ix2 0 c)) := by
    pointwise [putF]
  rw [e, select_cmp]

theorem putI_eq (j v : BitVec 32) (f : IVec S1x128 32) (c : Fin 128) :
    putI j v f (ix2 0 c) = if BitVec.ofNat 32 c.val = j then v else f (ix2 0 c) := by
  have e : putI j v f (ix2 0 c) = Scalar.select (IntOp.cmpi .eq (BitVec.ofNat 32 c.val) j) v (f (ix2 0 c)) := by
    pointwise [putI]
  rw [e, select_cmp]

theorem lane_word (c : Fin 128) (n : ℕ) (hn : n < 128) (h : BitVec.ofNat 32 c.val = BitVec.ofNat 32 n) : c.val = n := by
  have := congrArg BitVec.toInt h
  rw [toInt_word _ (by have := c.isLt; omega), toInt_word _ (by omega)] at this
  exact_mod_cast this

/-- Lane `c` of the value row is the `c`-th round's value. -/
theorem tops_lane (x : FVec Ideal S25x2000 .f32) (n : ℕ) (hn : n < 128) (c : Fin 128) (hc : c.val < n) :
    tops x n (ix2 0 c) = top (Rounds.left x c.val) := by
  induction n with
  | zero => exact absurd hc (Nat.not_lt_zero _)
  | succ n ih =>
    show putF (BitVec.ofNat 32 n) (top (Rounds.left x n)) (tops x n) (ix2 0 c) = _
    rw [putF_eq]
    by_cases h : c.val = n
    · rw [if_pos (by rw [h]), h]
    · rw [if_neg fun e => h (lane_word c n (by omega) e)]
      exact ih (by omega) (by omega)

/-- Lane `c` of the index row is the `c`-th round's place. -/
theorem places_lane (x : FVec Ideal S25x2000 .f32) (n : ℕ) (hn : n < 128) (c : Fin 128) (hc : c.val < n) :
    places x n (ix2 0 c) = BitVec.ofNat 32 (pick x c.val).val := by
  induction n with
  | zero => exact absurd hc (Nat.not_lt_zero _)
  | succ n ih =>
    show putI (BitVec.ofNat 32 n) (place (Rounds.left x n) (top (Rounds.left x n))) (places x n) (ix2 0 c) = _
    rw [putI_eq]
    by_cases h : c.val = n
    · rw [if_pos (by rw [h]), h, (pick_spec x n).2.2]
    · rw [if_neg fun e => h (lane_word c n (by omega) e)]
      exact ih (by omega) (by omega)

end Cert.KernelIdeal.Picks

end
-- ==== Proof.TopK.lean ====
/- The reference's `top_k` at the extended reals: value and index of place `j` are the entry and the position that the
   kernel's `j`-th round selects. -/
module

public import proofs.«01_k».proof.Proof.Picks
public import proofs.«01_k».proof.Proof.Gen.ReferenceIdeal.Run
public import Idealize.ShloMosaic.Lib.SortFacts

@[expose] public section

noncomputable section

namespace Cert.TopK

open Idealize.ShloMosaic Idealize.SL.Sem Cert.ReferenceIdeal

theorem gt_beq (a b : EReal) : ((FloatOps.cmpfTotal (F := Ideal) (φ := .f32) .gt a b : BitVec 1) == 1#1) = decide (b < a) := by
  rw [Ideal.cmpfTotal_def]
  show (BitVec.ofBool (decide (a > b)) == 1#1) = decide (b < a)
  by_cases h : b < a
  · simp [h]
  · simp [h]

/-- A vector's two `top_k` results, by the positions of its stable descending sort. -/
theorem topK_apply {n k : ℕ} (hk : k ≤ n) (x : FVec Ideal ⟨1, ![n]⟩ .f32) (h : (⟨1, ![n]⟩ : Shape).Slices (fun _ => 0) ⟨1, ![k]⟩)
    (j : Fin k) (p : Fin n)
    (hp : sortedFrom (fun a b : Fin n => decide (x (.ofFin b) < x (.ofFin a))) (j.castLE hk) = p) :
    (Host.topK ⟨1, ![k]⟩ 0 (FloatOps.cmpfTotal (F := Ideal) (φ := .f32) .gt) x h).1 (.ofFin j) = x (.ofFin p)
      ∧ (Host.topK ⟨1, ![k]⟩ 0 (FloatOps.cmpfTotal (F := Ideal) (φ := .f32) .gt) x h).2 (.ofFin j) = BitVec.ofNat 32 p.val := by
  have hd : 0 < (⟨1, ![n]⟩ : Shape).rank := Nat.zero_lt_one
  have e : ∀ (i : (⟨1, ![n]⟩ : Shape).Idx) (c : Fin n), i.along (⟨0, hd⟩ : Fin (⟨1, ![n]⟩ : Shape).rank) c = .ofFin c :=
    fun i c => Shape.Idx.along_rank1 i c
  have hs : ∀ i : (⟨1, ![n]⟩ : Shape).Idx, sortedFrom (n := n)
      (fun a b : Fin n => FloatOps.cmpfTotal (F := Ideal) (φ := .f32) .gt (x (i.along (⟨0, hd⟩ : Fin (⟨1, ![n]⟩ : Shape).rank) a))
        (x (i.along (⟨0, hd⟩ : Fin (⟨1, ![n]⟩ : Shape).rank) b)) == 1#1) (j.castLE hk) = p := fun i => by
    rw [← hp]
    congr 1
    funext a b
    rw [gt_beq, e i a, e i b]
  have he : ∀ q : (⟨1, ![n]⟩ : Shape).Idx, q 0 = j.castLE hk → ∀ c : Fin n,
      sortedFrom (n := n) (fun a b : Fin n => FloatOps.cmpfTotal (F := Ideal) (φ := .f32) .gt
        (x (q.along (⟨0, hd⟩ : Fin (⟨1, ![n]⟩ : Shape).rank) a)) (x (q.along (⟨0, hd⟩ : Fin (⟨1, ![n]⟩ : Shape).rank) b)) == 1#1) (q 0)
        = p := fun q hq c => by
    rw [hq]; exact hs q
  unfold Host.topK Host.sort2
  simp only [dif_pos hd]
  have hq : ((fun q : (⟨1, ![n]⟩ : Shape).Idx => q 0) (Shape.Idx.ofFin (j.castLE hk))) = j.castLE hk := rfl
  constructor
  · exact (congrArg (fun c : Fin n => x (Shape.Idx.along _ (⟨0, hd⟩ : Fin (⟨1, ![n]⟩ : Shape).rank) c)) (he _ (Fin.ext (by simp [Shape.Idx.ofFin])) p)).trans (congrArg x (e _ _))
  · refine (congrArg (fun c : Fin n => iotaInDim (⟨1, ![n]⟩ : Shape) 32 ⟨0, hd⟩ (Shape.Idx.along _ (⟨0, hd⟩ : Fin (⟨1, ![n]⟩ : Shape).rank) c)) (he _ (Fin.ext (by simp [Shape.Idx.ofFin])) p)).trans ?_
    rw [e]
    rfl

end Cert.TopK

end
-- ==== Proof.Result.lean ====
/- Both programs' results are the ten greatest scores and their positions. -/
module

public import proofs.«01_k».proof.Proof.Form
public import proofs.«01_k».proof.Proof.RefForm
public import proofs.«01_k».proof.Proof.TopK
public import proofs.«01_k».proof.Proof.Frames
public import proofs.«01_k».proof.Defs

@[expose] public section

set_option maxRecDepth 16384

noncomputable section

namespace Cert.Result

open Idealize.ShloMosaic Idealize.ShloMosaic.TcCoe Idealize.SL.Sem Cert.Spec
open Cert.KernelIdeal.Body (blkA blkB blkV qry sims pt dats run_quiescent inRow)
open Cert.KernelIdeal.Rounds (tops places)
open Cert.KernelIdeal.Picks (entries unflat pick)

/-! ## The kernel's similarity matrix -/

section kernel

open Cert.KernelIdeal Cert.KernelIdeal.Gen

variable (m : (ℓ : Loc nD τ sig) → Buf (Elt Ideal) ℓ) (c : Dev nD)

/-- The arguments as vectors. -/
def ka (k : Fin 1408) : EReal := (m ((c : Thread nD τ).loc main_arg0) : FVec Ideal S1408 .f32) (ix1 k)
def kb (k : Fin 1408) : EReal := (m ((c : Thread nD τ).loc main_arg1) : FVec Ideal S1408 .f32) (ix1 k)
def kv (p : Fin 50000) (k : Fin 1408) : EReal := (m ((c : Thread nD τ).loc main_arg2) : FVec Ideal S50000x1408 .f32) (ix2 p k)

theorem qry_apply (k : Fin 1408) : qry m c (ix2 0 k) = unit (mixed (ka m c) (kb m c)) k := by
  have ha : Form.row (blkA m c (pt 0 (by decide))) = ka m c := funext fun k => Output.blkA_apply m c _ k
  have hb : Form.row (blkB m c (pt 0 (by decide))) = kb m c := funext fun k => Output.blkB_apply m c _ k
  rw [← ha, ← hb]
  exact Form.query_apply _ _ 0 k

theorem inRow_eq (j : Fin 2000) : inRow j = (ix2 0 j : S1x2000.Idx) := by
  funext a
  match a with
  | ⟨0, _⟩ => rfl
  | ⟨1, _⟩ => rfl

theorem sims_apply (r : Fin 25) (j : Fin 2000) :
    sims m c (ix2 r j) = k0_pay2 (blkV m c (pt r.val r.isLt)) (qry m c) (inRow j) := rfl

theorem entries_sims (hn : ∀ p, 0 < Spec.norm (kv m c p)) (p : Fin 50000) :
    entries (sims m c) p = score (kv m c p) (mixed (ka m c) (kb m c)) := by
  unfold entries unflat
  rw [sims_apply, inRow_eq]
  refine Form.pay2_apply _ _ _ _ _ (fun k => Output.blkV_apply m c _ _ k p ?_) (fun k => qry_apply m c k) (ne_of_gt (hn p))
  show p.val = p.val / 2000 * 2000 + p.val % 2000
  omega

/-- The kernel's results at place `j`. -/
theorem value_apply (hn : ∀ p, 0 < Spec.norm (kv m c p)) (hq : 0 < Spec.norm (mixed (ka m c) (kb m c))) (j : Fin 10) :
    (shapeCast S10 (extractStridedSlice S1x10 ![0, 0] (tops (sims m c) 10) slices_S1x128_S1x10_0_0) shapeCasts_S1x10_S10
      : FVec Ideal S10 .f32) (ix1 j) = entries (sims m c) (pick (sims m c) j.val) := by
  have e : (shapeCast S10 (extractStridedSlice S1x10 ![0, 0] (tops (sims m c) 10) slices_S1x128_S1x10_0_0) shapeCasts_S1x10_S10
      : FVec Ideal S10 .f32) (ix1 j) = tops (sims m c) 10 (ix2 0 (j.castLE (by decide : 10 ≤ 128))) := by
    pointwise
    rfl
  rw [e, Picks.tops_lane (sims m c) 10 (by decide) _ j.isLt]
  exact Picks.top_left (sims m c) (fun p => entries_sims m c hn p ▸ score_bot _ _ (hn p) hq) j

theorem index_apply (j : Fin 10) :
    (shapeCast S10 (extractStridedSlice S1x10 ![0, 0] (places (sims m c) 10) slices_S1x128_S1x10_0_0) shapeCasts_S1x10_S10
      : IVec S10 32) (ix1 j) = BitVec.ofNat 32 (pick (sims m c) j.val).val := by
  have e : (shapeCast S10 (extractStridedSlice S1x10 ![0, 0] (places (sims m c) 10) slices_S1x128_S1x10_0_0) shapeCasts_S1x10_S10
      : IVec S10 32) (ix1 j) = places (sims m c) 10 (ix2 0 (j.castLE (by decide : 10 ≤ 128))) := by
    pointwise
    rfl
  rw [e]
  exact Picks.places_lane (sims m c) 10 (by decide) _ j.isLt

end kernel

/-! ## The precondition -/

section pre

open Cert.ReferenceIdeal Cert.ReferenceIdeal.Gen Cert.ReferenceIdeal.Value Cert.ReferenceIdeal.Form

variable (V0 : Valuation τ sig (Elt Ideal))

theorem ogt_zero (x : EReal) (h : FloatOps.cmpf (F := Ideal) (φ := .f32) .ogt x (Ideal.ofBits .f32 0x00000000#32) = 1#1) : 0 < x := by
  rw [Ideal.ofBits_zero_f32] at h
  by_contra hc
  have : FloatOps.cmpf (F := Ideal) (φ := .f32) .ogt x 0 = BitVec.ofBool (decide (0 < x)) := rfl
  rw [this, decide_eq_false hc] at h
  exact absurd h (by decide)

theorem pre_query (h : (@Cert.Pre_vectors_nonzero.fn Cert.Frames.facts Ideal _ (V0 (Proc.devRef .tc main_arg0)) (V0 (Proc.devRef .tc main_arg1))
    (V0 (Proc.devRef .tc main_arg2))).1 = fun _ => 1#1) : 0 < Spec.norm (mixed (va V0) (vb V0)) := by
  have e : (@Cert.Pre_vectors_nonzero.fn Cert.Frames.facts Ideal _ (V0 (Proc.devRef .tc main_arg0)) (V0 (Proc.devRef .tc main_arg1))
      (V0 (Proc.devRef .tc main_arg2))).1
      = cmpf .ogt (Host.sqrt (Host.reduceAdd (mulf (res_main_v62 V0) (res_main_v62 V0)) (constant S_ .f32 0x00000000#32)
          reducesTo_S1408_S_d0 h_S_)) (constant S_ .f32 0x00000000#32) := rfl
  rw [e] at h
  have := ogt_zero _ (congrFun h ix0)
  refine lt_of_lt_of_eq this ?_
  unfold Spec.norm
  simp only [← mixed_eq]
  pointwise

theorem pre_rows (h : (@Cert.Pre_vectors_nonzero.fn Cert.Frames.facts Ideal _ (V0 (Proc.devRef .tc main_arg0)) (V0 (Proc.devRef .tc main_arg1))
    (V0 (Proc.devRef .tc main_arg2))).2 = fun _ => 1#1) (p : Fin 50000) : 0 < Spec.norm (vv V0 p) := by
  have := ogt_zero _ (congrFun h (ix1 p))
  refine lt_of_lt_of_eq this ?_
  unfold Spec.norm vv
  pointwise [Cert.Pre_vectors_nonzero.fn_norm_3]

end pre

/-! ## The two programs -/

section both

variable (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ) (ρ' : Dev ReferenceIdeal.nD → PrngReg)

/-- The kernel's two results. -/
def kvals (c : Dev KernelIdeal.nD) : FVec Ideal KernelIdeal.S10 .f32 :=
  shapeCast KernelIdeal.S10 (extractStridedSlice KernelIdeal.S1x10 ![0, 0] (tops (sims m c) 10)
    KernelIdeal.Gen.slices_S1x128_S1x10_0_0) KernelIdeal.Gen.shapeCasts_S1x10_S10
def kinds (c : Dev KernelIdeal.nD) : IVec KernelIdeal.S10 32 :=
  shapeCast KernelIdeal.S10 (extractStridedSlice KernelIdeal.S1x10 ![0, 0] (places (sims m c) 10)
    KernelIdeal.Gen.slices_S1x128_S1x10_0_0) KernelIdeal.Gen.shapeCasts_S1x10_S10

theorem kernel_run : θ_run (KernelIdeal.defs (F := Ideal)) (onTc (τ := KernelIdeal.τ) (KernelIdeal.main (F := Ideal)))
    ⟨m, fun _ => 0, ρ⟩ (fun r => ∀ c : Dev KernelIdeal.nD,
      r.2.mem ((c.tc : Thread KernelIdeal.nD KernelIdeal.τ).loc KernelIdeal.main_v0_0) = kvals m c
      ∧ r.2.mem ((c.tc : Thread KernelIdeal.nD KernelIdeal.τ).loc KernelIdeal.main_v0_1) = kinds m c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)) := by
  refine (θ_run _ _ _).mono (fun r h c => ?_) (θ_run_and (run_quiescent m ρ) (KernelIdeal.Body.frame m ρ))
  exact ⟨((h.1.1 c).2 KernelIdeal.main_v0_0 (Pipeline.mem_restRefs_of KernelIdeal.main_v0_0 (by decide) (by decide))).trans
      (KernelIdeal.Output.values m c),
    ((h.1.1 c).2 KernelIdeal.main_v0_1 (Pipeline.mem_restRefs_of KernelIdeal.main_v0_1 (by decide) (by decide))).trans
      (KernelIdeal.Output.indices m c), h.2.1 c⟩

/-- The scores the reference sorts are the entries of the kernel's similarity matrix. -/
theorem scores_eq (V0 : Valuation ReferenceIdeal.τ ReferenceIdeal.sig (Elt Ideal)) (c : Dev KernelIdeal.nD)
    (ha : ReferenceIdeal.Form.va V0 = ka m c) (hb : ReferenceIdeal.Form.vb V0 = kb m c)
    (hv : ReferenceIdeal.Form.vv V0 = kv m c) (hn : ∀ p, 0 < Spec.norm (kv m c p)) (p : Fin 50000) :
    (ReferenceIdeal.Value.res_main_v69 (F := Ideal) V0 : FVec Ideal ReferenceIdeal.S50000 .f32) (.ofFin p)
      = entries (sims m c) p := by
  have e : (Shape.Idx.ofFin p : ReferenceIdeal.S50000.Idx) = ix1 p := eq_ix1 _
  rw [e, ReferenceIdeal.Form.score_eq, ha, hb, hv, entries_sims m c hn]

/-- The ten largest of a vector that holds the entries of the similarity matrix are the kernel's results. -/
theorem results_eq (c : Dev KernelIdeal.nD) (x : FVec Ideal ReferenceIdeal.S50000 .f32)
    (hx : ∀ p : Fin 50000, x (.ofFin p) = entries (sims m c) p) (hn : ∀ p, 0 < Spec.norm (kv m c p))
    (hq : 0 < Spec.norm (mixed (ka m c) (kb m c))) :
    (Host.topK ReferenceIdeal.S10 0 (FloatOps.cmpfTotal (F := Ideal) (φ := .f32) .gt) x
        ReferenceIdeal.Gen.sliceFits_S50000_S10).1 = kvals m c
      ∧ (Host.topK ReferenceIdeal.S10 0 (FloatOps.cmpfTotal (F := Ideal) (φ := .f32) .gt) x
        ReferenceIdeal.Gen.sliceFits_S50000_S10).2 = kinds m c := by
  have hpos : ∀ p, ⊥ < entries (sims m c) p := fun p => by
    rw [entries_sims m c hn p]
    exact score_bot _ _ (hn p) hq
  have hk : 10 ≤ 50000 := by omega
  have hf : (fun a b : Fin 50000 => decide (x (.ofFin b) < x (.ofFin a)))
      = fun a b : Fin 50000 => decide (entries (sims m c) b < entries (sims m c) a) := by
    funext a b
    rw [hx, hx]
  have hs : ∀ j : Fin 10, sortedFrom (fun a b : Fin 50000 => decide (x (.ofFin b) < x (.ofFin a))) (j.castLE hk)
      = pick (sims m c) j.val := fun j => by
    rw [hf]
    exact KernelIdeal.Picks.picks_sorted (sims m c) hpos j
  have ht := fun j : Fin 10 => TopK.topK_apply (n := 50000) (k := 10) hk x
    ReferenceIdeal.Gen.sliceFits_S50000_S10 j _ (hs j)
  have ej : ∀ j : Fin 10, (Shape.Idx.ofFin j : ReferenceIdeal.S10.Idx) = ix1 j := fun j => eq_ix1 _
  constructor
  · funext i
    rw [eq_ix1 i]
    refine Eq.trans ?_ (value_apply m c hn hq (i 0)).symm
    rw [← ej (i 0)]
    exact (ht (i 0)).1.trans (hx _)
  · funext i
    rw [eq_ix1 i]
    refine Eq.trans ?_ (index_apply m c (i 0)).symm
    rw [← ej (i 0)]
    exact (ht (i 0)).2

end both

/-- Under the precondition the two programs leave equal results. -/
theorem algebraic : Cert.algebraic_KernelIdeal_ReferenceIdeal_pre_vectors_nonzero (hKernelIdeal := Cert.KernelIdeal.Gen.facts)
    (hReferenceIdeal := Cert.ReferenceIdeal.Gen.facts) (hPre_vectors_nonzero := Cert.Frames.facts) := by
  intro m ρ m' ρ' hpre hag
  refine ⟨kvals m, kinds m, kernel_run m ρ, (θ_run _ _ _).mono (fun r h c => ?_) (ReferenceIdeal.Value.run m' ρ')⟩
  have ha : ReferenceIdeal.Form.va (StableHlo.launchContents m' c) = ka m c := funext fun k => congrFun (hag c).1 (ix1 k)
  have hb : ReferenceIdeal.Form.vb (StableHlo.launchContents m' c) = kb m c := funext fun k => congrFun (hag c).2.1 (ix1 k)
  have hv : ReferenceIdeal.Form.vv (StableHlo.launchContents m' c) = kv m c :=
    funext fun p => funext fun k => congrFun (hag c).2.2 (ix2 p k)
  have h1 := (hpre c).1
  have h2 := (hpre c).2
  rw [← (hag c).1, ← (hag c).2.1, ← (hag c).2.2] at h1 h2
  have hq := pre_query (StableHlo.launchContents m' c) h1
  have hn := pre_rows (StableHlo.launchContents m' c) h2
  rw [ha, hb] at hq
  rw [hv] at hn
  have e := results_eq m c _ (scores_eq m (StableHlo.launchContents m' c) c ha hb hv hn) hn hq
  exact ⟨(h c).1.trans e.1, (h c).2.1.trans e.2, (h c).2.2⟩

end Cert.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.BitsKRun
public import proofs.«01_k».proof.Proof.Frames
public import proofs.«01_k».proof.Proof.Result
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Frames.facts,
  fun m ρ _ => Cert.Kernel.Body.frame m ρ,
  fun m ρ _ => Cert.KernelIdeal.Body.frame m ρ,
  fun m ρ _ => Cert.KernelIdeal.Body.frame m ρ,
  fun m ρ _ => Cert.Frames.reference m ρ,
  fun m ρ _ => Cert.Frames.reference m ρ,
  trivial, Cert.Result.algebraic⟩

end Cert.Proof

end
